-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_slices_and_scores [hPre_slices_and_scores : Cert.Pre_slices_and_scores.Facts] (m : (ℓ : Loc Cert.KernelIdeal.nD Cert.KernelIdeal.τ Cert.KernelIdeal.sig) → Buf (Elt Ideal) ℓ) : Prop :=
  ∀ c : Dev Cert.KernelIdeal.nD,
    (Cert.Pre_slices_and_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_slices_and_scores [hPre_slices_and_scores : Cert.Pre_slices_and_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slices_and_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_slices_and_scores [hKernelIdeal : Cert.KernelIdeal.Facts] [hPre_slices_and_scores : Cert.Pre_slices_and_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_slices_and_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_slices_and_scores [hReferenceIdeal : Cert.ReferenceIdeal.Facts] [hPre_slices_and_scores : Cert.Pre_slices_and_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_slices_and_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_slices_and_scores [hKernelIdeal : Cert.KernelIdeal.Facts] [hReferenceIdeal : Cert.ReferenceIdeal.Facts] [hPre_slices_and_scores : Cert.Pre_slices_and_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_slices_and_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_slices_and_scores : Cert.Pre_slices_and_scores.Facts),
    quiescent_Kernel (hKernel := hKernel)
    ∧ quiescent_KernelIdeal (hKernelIdeal := hKernelIdeal)
    ∧ quiescent_KernelIdeal_pre_slices_and_scores (hKernelIdeal := hKernelIdeal) (hPre_slices_and_scores := hPre_slices_and_scores)
    ∧ quiescent_ReferenceIdeal (hReferenceIdeal := hReferenceIdeal)
    ∧ quiescent_ReferenceIdeal_pre_slices_and_scores (hReferenceIdeal := hReferenceIdeal) (hPre_slices_and_scores := hPre_slices_and_scores)
    ∧ preserves_Kernel_KernelIdeal
    ∧ algebraic_KernelIdeal_ReferenceIdeal_pre_slices_and_scores (hKernelIdeal := hKernelIdeal) (hReferenceIdeal := hReferenceIdeal) (hPre_slices_and_scores := hPre_slices_and_scores)
-- ==== Pre_slices_and_scores.lean ====
abbrev S32768x256 : Shape := ⟨2, ![32768, 256]⟩
abbrev S16 : Shape := ⟨1, ![16]⟩
abbrev S128x256 : Shape := ⟨2, ![128, 256]⟩
abbrev S128 : Shape := ⟨1, ![128]⟩
abbrev S1x128 : Shape := ⟨2, ![1, 128]⟩
abbrev S1 : Shape := ⟨1, ![1]⟩
abbrev S32x256 : Shape := ⟨2, ![32, 256]⟩
abbrev S32 : Shape := ⟨1, ![32]⟩
abbrev S1x32 : Shape := ⟨2, ![1, 32]⟩
abbrev S15 : Shape := ⟨1, ![15]⟩
abbrev S_ : Shape := ⟨0, ![]⟩

class Facts : Prop where
  slices_S16_S15_0 : S16.Slices ![0] S15
  slices_S16_S15_1 : S16.Slices ![1] S15
  reducesTo_S15_S_d0 : S15.ReducesTo [0] S_
  h_S_ : 0 < S_.numel
  slices_S16_S1_0 : S16.Slices ![0] S1
  shapeCasts_S1_S_ : S1.ShapeCasts S_
  slices_S16_S1_15 : S16.Slices ![15] S1
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v16 : IVec S_ 1) (main_v17 : FVec F S1 .f32) (main_cst_3 : FVec F S_ .f32) : IVec S_ 1 :=
  let main_v18 : FVec F S1 .f32 := broadcastInDim S1 ![] bcast_S_S1 main_cst_3
  let main_v19 : IVec S1 1 := cmpf .olt main_v17 main_v18
  let main_c_4 : IVec S_ 1 := constantI S_ 1 1#1
  let main_v20 : IVec S_ 1 := (fun x v => Host.reduce IntOp.andi x v reducesTo_S1_S_d0 h_S_) main_v19 main_c_4
  let main_v21 : IVec S_ 1 := andi main_v16 main_v20
  main_v21

def fn {F : FTy → Type} [FloatOps F] (main_arg0 : FVec F S32768x256 .f32) (main_arg1 : IVec S16 32) (main_arg2 : FVec F S128x256 .f32) (main_arg3 : FVec F S128 .f32) (main_arg4 : FVec F S128x256 .f32) (main_arg5 : FVec F S128 .f32) (main_arg6 : FVec F S1x128 .f32) (main_arg7 : FVec F S1 .f32) (main_arg8 : FVec F S32x256 .f32) (main_arg9 : FVec F S32 .f32) (main_arg10 : FVec F S1x32 .f32) (main_arg11 : FVec F S1 .f32) : IVec S_ 1 :=
  let main_v0 : IVec S15 32 := (extractStridedSlice S15 ![0] · slices_S16_S15_0) main_arg1
  let main_v1 : IVec S15 32 := (extractStridedSlice S15 ![1] · slices_S16_S15_1) main_arg1
  let main_v2 : IVec S15 1 := cmpi .slt main_v0 main_v1
  let main_c : IVec S_ 1 := constantI S_ 1 1#1
  let main_v3 : IVec S_ 1 := (fun x v => Host.reduce IntOp.andi x v reducesTo_S15_S_d0 h_S_) main_v2 main_c
  let main_v4 : IVec S1 32 := (extractStridedSlice S1 ![0] · slices_S16_S1_0) main_arg1
  let main_v5 : IVec S_ 32 := shapeCast S_ main_v4 shapeCasts_S1_S_
  let main_c_0 : IVec S_ 32 := constantI S_ 32 1#32
  let main_v6 : IVec S_ 1 := cmpi .sge main_v5 main_c_0
  let main_v7 : IVec S_ 1 := andi main_v3 main_v6
  let main_v8 : IVec S1 32 := (extractStridedSlice S1 ![15] · slices_S16_S1_15) main_arg1
  let main_v9 : IVec S_ 32 := shapeCast S_ main_v8 shapeCasts_S1_S_
  let main_c_1 : IVec S_ 32 := constantI S_ 32 32768#32
  let main_v10 : IVec S_ 1 := cmpi .sle main_v9 main_c_1
  let main_v11 : IVec S_ 1 := andi main_v7 main_v10
  let main_v12 : FVec F S1x128 .f32 := Host.absf main_arg6
  let main_cst : FVec F S_ .f32 := constant S_ .f32 0x7F800000#32
  let main_v13 : FVec F S1x128 .f32 := broadcastInDim S1x128 ![] bcast_S_S1x128 main_cst
  let main_v14 : IVec S1x128 1 := cmpf .olt main_v12 main_v13
  let main_c_2 : IVec S_ 1 := constantI S_ 1 1#1
  let main_v15 : IVec S_ 1 := (fun x v => Host.reduce IntOp.andi x v reducesTo_S1x128_S_d0_1 h_S_) main_v14 main_c_2
  let main_v16 : IVec S_ 1 := andi main_v11 main_v15
  let main_v17 : FVec F S1 .f32 := Host.absf main_arg7
  let main_cst_3 : FVec F S_ .f32 := constant S_ .f32 0x7F800000#32
  fn_part1 (F := F) main_v16 main_v17 main_cst_3
-- ==== Kernel.lean ====
abbrev S32768x256 : Shape := ⟨2, ![32768, 256]⟩
abbrev S16 : Shape := ⟨1, ![16]⟩
abbrev S128x256 : Shape := ⟨2, ![128, 256]⟩
abbrev S128 : Shape := ⟨1, ![128]⟩
abbrev S1x128 : Shape := ⟨2, ![1, 128]⟩
abbrev S1 : Shape := ⟨1, ![1]⟩
abbrev S32x256 : Shape := ⟨2, ![32, 256]⟩
abbrev S32 : Shape := ⟨1, ![32]⟩
abbrev S1x32 : Shape := ⟨2, ![1, 32]⟩
abbrev S1x16 : Shape := ⟨2, ![1, 16]⟩
abbrev S1x1 : Shape := ⟨2, ![1, 1]⟩
abbrev S4096x256 : Shape := ⟨2, ![4096, 256]⟩
abbrev S16x1 : Shape := ⟨2, ![16, 1]⟩
abbrev S16x256 : Shape := ⟨2, ![16, 256]⟩
abbrev S256x256 : Shape := ⟨2, ![256, 256]⟩
abbrev S1x256 : Shape := ⟨2, ![1, 256]⟩
abbrev S16x16 : Shape := ⟨2, ![16, 16]⟩
abbrev S15x1 : Shape := ⟨2, ![15, 1]⟩
abbrev S4096x128 : Shape := ⟨2, ![4096, 128]⟩
abbrev S1x4096 : Shape := ⟨2, ![1, 4096]⟩
abbrev S16x4096 : Shape := ⟨2, ![16, 4096]⟩
abbrev S4096 : Shape := ⟨1, ![4096]⟩
abbrev S16x32 : Shape := ⟨2, ![16, 32]⟩

abbrev nBuf : Space → Nat
  | .hbm => 20
  | .vmem => 21
  | .smem => 0
  | _ => 0

abbrev bufTy : (tb : Table) → Fin (tcTables nBuf tb) → BufTy
  | .hbm, ⟨0, _⟩ => ⟨S32768x256, .f32⟩
  | .hbm, ⟨1, _⟩ => ⟨S16, .i32⟩
  | .hbm, ⟨2, _⟩ => ⟨S128x256, .f32⟩
  | .hbm, ⟨3, _⟩ => ⟨S128, .f32⟩
  | .hbm, ⟨4, _⟩ => ⟨S128x256, .f32⟩
  | .hbm, ⟨5, _⟩ => ⟨S128, .f32⟩
  | .hbm, ⟨6, _⟩ => ⟨S1x128, .f32⟩
  | .hbm, ⟨7, _⟩ => ⟨S1, .f32⟩
  | .hbm, ⟨8, _⟩ => ⟨S32x256, .f32⟩
  | .hbm, ⟨9, _⟩ => ⟨S32, .f32⟩
  | .hbm, ⟨10, _⟩ => ⟨S1x32, .f32⟩
  | .hbm, ⟨11, _⟩ => ⟨S1, .f32⟩
  | .hbm, ⟨12, _⟩ => ⟨S1x16, .i32⟩
  | .hbm, ⟨13, _⟩ => ⟨S1x128, .f32⟩
  | .hbm, ⟨14, _⟩ => ⟨S1x128, .f32⟩
  | .hbm, ⟨15, _⟩ => ⟨S1x1, .f32⟩
  | .hbm, ⟨16, _⟩ => ⟨S1x32, .f32⟩
  | .hbm, ⟨17, _⟩ => ⟨S1x1, .f32⟩
  | .hbm, ⟨18, _⟩ => ⟨S1x16, .f32⟩
  | .hbm, ⟨19, _⟩ => ⟨S16x1, .f32⟩
  | .local _ .vmem, ⟨0, _⟩ => ⟨S1x16, .i32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S128x256, .f32⟩
  | .local _ .vmem, ⟨6, _⟩ => ⟨S1x128, .f32⟩
  | .local _ .vmem, ⟨7, _⟩ => ⟨S128x256, .f32⟩
  | .local _ .vmem, ⟨8, _⟩ => ⟨S1x128, .f32⟩
  | .local _ .vmem, ⟨9, _⟩ => ⟨S1x128, .f32⟩
  | .local _ .vmem, ⟨10, _⟩ => ⟨S1x1, .f32⟩
  | .local _ .vmem, ⟨11, _⟩ => ⟨S32x256, .f32⟩
  | .local _ .vmem, ⟨12, _⟩ => ⟨S1x32, .f32⟩
  | .local _ .vmem, ⟨13, _⟩ => ⟨S1x32, .f32⟩
  | .local _ .vmem, ⟨14, _⟩ => ⟨S1x1, .f32⟩
  | .local _ .vmem, ⟨15, _⟩ => ⟨S1x16, .f32⟩
  | .local _ .vmem, ⟨16, _⟩ => ⟨S16x1, .f32⟩
  | .local _ .vmem, ⟨17, _⟩ => ⟨S16x1, .f32⟩
  | .local _ .vmem, ⟨18, _⟩ => ⟨S16x256, .f32⟩
  | .local _ .vmem, ⟨19, _⟩ => ⟨S256x256, .bf16⟩
  | .local _ .vmem, ⟨20, _⟩ => ⟨S1x256, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v143 : BitVec 1 := Scalar.cmpi .eq arg0 c3_i32
  let v144 : BitVec 32 := Scalar.extui v143
  let c0_i32_56 : BitVec 32 := 0#32
  let v145 : BitVec 1 := Scalar.cmpi .ne v144 c0_i32_56
  v145

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S32768x256 : Shape := ⟨2, ![32768, 256]⟩
abbrev S16 : Shape := ⟨1, ![16]⟩
abbrev S128x256 : Shape := ⟨2, ![128, 256]⟩
abbrev S128 : Shape := ⟨1, ![128]⟩
abbrev S1x128 : Shape := ⟨2, ![1, 128]⟩
abbrev S1 : Shape := ⟨1, ![1]⟩
abbrev S32x256 : Shape := ⟨2, ![32, 256]⟩
abbrev S32 : Shape := ⟨1, ![32]⟩
abbrev S1x32 : Shape := ⟨2, ![1, 32]⟩
abbrev S1x16 : Shape := ⟨2, ![1, 16]⟩
abbrev S32768 : Shape := ⟨1, ![32768]⟩
abbrev S32768x1 : Shape := ⟨2, ![32768, 1]⟩
abbrev S32768x16 : Shape := ⟨2, ![32768, 16]⟩
abbrev S_ : Shape := ⟨0, ![]⟩
abbrev S256x128 : Shape := ⟨2, ![256, 128]⟩
abbrev S32768x128 : Shape := ⟨2, ![32768, 128]⟩
abbrev S128x1 : Shape := ⟨2, ![128, 1]⟩
abbrev S1x1 : Shape := ⟨2, ![1, 1]⟩
abbrev S1x32768 : Shape := ⟨2, ![1, 32768]⟩
abbrev S16x1 : Shape := ⟨2, ![16, 1]⟩
abbrev S16x32768 : Shape := ⟨2, ![16, 32768]⟩
abbrev S16x256 : Shape := ⟨2, ![16, 256]⟩
abbrev S256x32 : Shape := ⟨2, ![256, 32]⟩
abbrev S16x32 : Shape := ⟨2, ![16, 32]⟩
abbrev S32x1 : Shape := ⟨2, ![32, 1]⟩

abbrev nBuf : Space → Nat
  | .hbm => 109
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S16, .i32⟩
  | .hbm, ⟨2, _⟩ => ⟨S128x256, .f32⟩
  | .hbm, ⟨3, _⟩ => ⟨S128, .f32⟩
  | .hbm, ⟨4, _⟩ => ⟨S128x256, .f32⟩
  | .hbm, ⟨5, _⟩ => ⟨S128, .f32⟩
  | .hbm, ⟨6, _⟩ => ⟨S1x128, .f32⟩
  | .hbm, ⟨7, _⟩ => ⟨S1, .f32⟩
  | .hbm, ⟨8, _⟩ => ⟨S32x256, .f32⟩
  | .hbm, ⟨9, _⟩ => ⟨S32, .f32⟩
  | .hbm, ⟨10, _⟩ => ⟨S1x32, .f32⟩
  | .hbm, ⟨11, _⟩ => ⟨S1, .f32⟩
  | .hbm, ⟨12, _⟩ => ⟨S1x16, .i32⟩
  | .hbm, ⟨13, _⟩ => ⟨S32768, .i32⟩
  | .hbm, ⟨14, _⟩ => ⟨S32768x1, .i32⟩
  | .hbm, ⟨15, _⟩ => ⟨S32768x16, .i32⟩
  | .hbm, ⟨16, _⟩ => ⟨S32768x16, .i32⟩
  | .hbm, ⟨17, _⟩ => ⟨S32768x16, .i1⟩
  | .hbm, ⟨18, _⟩ => ⟨S32768x16, .i32⟩
  | .hbm, ⟨19, _⟩ => ⟨S_, .i32⟩
  | .hbm, ⟨20, _⟩ => ⟨S32768, .i32⟩
  | .hbm, ⟨21, _⟩ => ⟨S256x128, .f32⟩
  | .hbm, ⟨22, _⟩ => ⟨S32768x128, .f32⟩
  | .hbm, ⟨23, _⟩ => ⟨S1x128, .f32⟩
  | .hbm, ⟨24, _⟩ => ⟨S32768x128, .f32⟩
  | .hbm, ⟨25, _⟩ => ⟨S32768x128, .f32⟩
  | .hbm, ⟨26, _⟩ => ⟨S32768x128, .f32⟩
  | .hbm, ⟨27, _⟩ => ⟨S256x128, .f32⟩
  | .hbm, ⟨28, _⟩ => ⟨S32768x128, .f32⟩
  | .hbm, ⟨29, _⟩ => ⟨S1x128, .f32⟩
  | .hbm, ⟨30, _⟩ => ⟨S32768x128, .f32⟩
  | .hbm, ⟨31, _⟩ => ⟨S32768x128, .f32⟩
  | .hbm, ⟨32, _⟩ => ⟨S32768x128, .f32⟩
  | .hbm, ⟨33, _⟩ => ⟨S32768x128, .f32⟩
  | .hbm, ⟨34, _⟩ => ⟨S_, .f32⟩
  | .hbm, ⟨35, _⟩ => ⟨S32768x128, .f32⟩
  | .hbm, ⟨36, _⟩ => ⟨S32768x128, .f32⟩
  | .hbm, ⟨37, _⟩ => ⟨S_, .f32⟩
  | .hbm, ⟨38, _⟩ => ⟨S32768x128, .f32⟩
  | .hbm, ⟨39, _⟩ => ⟨S32768x128, .f32⟩
  | .hbm, ⟨40, _⟩ => ⟨S32768x128, .f32⟩
  | .hbm, ⟨41, _⟩ => ⟨S128x1, .f32⟩
  | .hbm, ⟨42, _⟩ => ⟨S32768x1, .f32⟩
  | .hbm, ⟨43, _⟩ => ⟨S1x1, .f32⟩
  | .hbm, ⟨44, _⟩ => ⟨S32768x1, .f32⟩
  | .hbm, ⟨45, _⟩ => ⟨S32768x1, .f32⟩
  | .hbm, ⟨46, _⟩ => ⟨S32768, .f32⟩
  | .hbm, ⟨47, _⟩ => ⟨S1x32768, .i32⟩
  | .hbm, ⟨48, _⟩ => ⟨S16, .i32⟩
  | .hbm, ⟨49, _⟩ => ⟨S16x1, .i32⟩
  | .hbm, ⟨50, _⟩ => ⟨S16x32768, .i32⟩
  | .hbm, ⟨51, _⟩ => ⟨S16x32768, .i32⟩
  | .hbm, ⟨52, _⟩ => ⟨S16x32768, .i1⟩
  | .hbm, ⟨53, _⟩ => ⟨S1x32768, .f32⟩
  | .hbm, ⟨54, _⟩ => ⟨S_, .f32⟩
  | .hbm, ⟨55, _⟩ => ⟨S_, .f32⟩
  | .hbm, ⟨56, _⟩ => ⟨S16x32768, .f32⟩
  | .hbm, ⟨57, _⟩ => ⟨S16x32768, .f32⟩
  | .hbm, ⟨58, _⟩ => ⟨S16x32768, .f32⟩
  | .hbm, ⟨59, _⟩ => ⟨S_, .f32⟩
  | .hbm, ⟨60, _⟩ => ⟨S16, .f32⟩
  | .hbm, ⟨61, _⟩ => ⟨S_, .i32⟩
  | .hbm, ⟨62, _⟩ => ⟨S32768, .i32⟩
  | .hbm, ⟨63, _⟩ => ⟨S32768, .i1⟩
  | .hbm, ⟨64, _⟩ => ⟨S_, .i32⟩
  | .hbm, ⟨65, _⟩ => ⟨S32768, .i32⟩
  | .hbm, ⟨66, _⟩ => ⟨S32768, .i32⟩
  | .hbm, ⟨67, _⟩ => ⟨S32768, .i32⟩
  | .hbm, ⟨68, _⟩ => ⟨S32768x1, .i32⟩
  | .hbm, ⟨69, _⟩ => ⟨S32768, .f32⟩
  | .hbm, ⟨70, _⟩ => ⟨S32768, .f32⟩
  | .hbm, ⟨71, _⟩ => ⟨S32768, .f32⟩
  | .hbm, ⟨72, _⟩ => ⟨S_, .f32⟩
  | .hbm, ⟨73, _⟩ => ⟨S16, .f32⟩
  | .hbm, ⟨74, _⟩ => ⟨S32768x1, .i32⟩
  | .hbm, ⟨75, _⟩ => ⟨S16, .f32⟩
  | .hbm, ⟨76, _⟩ => ⟨S_, .i32⟩
  | .hbm, ⟨77, _⟩ => ⟨S32768, .i32⟩
  | .hbm, ⟨78, _⟩ => ⟨S32768, .i1⟩
  | .hbm, ⟨79, _⟩ => ⟨S_, .i32⟩
  | .hbm, ⟨80, _⟩ => ⟨S32768, .i32⟩
  | .hbm, ⟨81, _⟩ => ⟨S32768, .i32⟩
  | .hbm, ⟨82, _⟩ => ⟨S32768, .i32⟩
  | .hbm, ⟨83, _⟩ => ⟨S32768x1, .i32⟩
  | .hbm, ⟨84, _⟩ => ⟨S32768, .f32⟩
  | .hbm, ⟨85, _⟩ => ⟨S32768, .f32⟩
  | .hbm, ⟨86, _⟩ => ⟨S32768x1, .f32⟩
  | .hbm, ⟨87, _⟩ => ⟨S32768x256, .f32⟩
  | .hbm, ⟨88, _⟩ => ⟨S32768x256, .f32⟩
  | .hbm, ⟨89, _⟩ => ⟨S_, .f32⟩
  | .hbm, ⟨90, _⟩ => ⟨S16x256, .f32⟩
  | .hbm, ⟨91, _⟩ => ⟨S32768x1, .i32⟩
  | .hbm, ⟨92, _⟩ => ⟨S16x256, .f32⟩
  | .hbm, ⟨93, _⟩ => ⟨S256x32, .f32⟩
  | .hbm, ⟨94, _⟩ => ⟨S16x32, .f32⟩
  | .hbm, ⟨95, _⟩ => ⟨S1x32, .f32⟩
  | .hbm, ⟨96, _⟩ => ⟨S16x32, .f32⟩
  | .hbm, ⟨97, _⟩ => ⟨S16x32, .f32⟩
  | .hbm, ⟨98, _⟩ => ⟨S_, .f32⟩
  | .hbm, ⟨99, _⟩ => ⟨S16x32, .f32⟩
  | .hbm, ⟨100, _⟩ => ⟨S16x32, .f32⟩
  | .hbm, ⟨101, _⟩ => ⟨S32x1, .f32⟩
  | .hbm, ⟨102, _⟩ => ⟨S16x1, .f32⟩
  | .hbm, ⟨103, _⟩ => ⟨S1x1, .f32⟩
  | .hbm, ⟨104, _⟩ => ⟨S16x1, .f32⟩
  | .hbm, ⟨105, _⟩ => ⟨S16x1, .f32⟩
  | .hbm, ⟨106, _⟩ => ⟨S_, .f32⟩
  | .hbm, ⟨107, _⟩ => ⟨S16x1, .f32⟩
  | .hbm, ⟨108, _⟩ => ⟨S16x1, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_v21 : Ref sig .tc := ⟨.hbm, 35, rfl⟩
abbrev main_v22 : Ref sig .tc := ⟨.hbm, 36, rfl⟩
abbrev main_cst_0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_1 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v39 : Ref sig .tc := ⟨.hbm, 58, rfl⟩
abbrev main_cst_2 : Ref sig .tc := ⟨.hbm, 59, rfl⟩
abbrev main_v40 : Ref sig .tc := ⟨.hbm, 60, rfl⟩
abbrev main_c_3 : Ref sig .tc := ⟨.hbm, 61, rfl⟩
abbrev main_v41 : Ref sig .tc := ⟨.hbm, 62, rfl⟩
abbrev main_v42 : Ref sig .tc := ⟨.hbm, 63, rfl⟩
abbrev main_c_4 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_5 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_6 : Ref sig .tc := ⟨.hbm, 76, rfl⟩
abbrev main_v53 : Ref sig .tc := ⟨.hbm, 77, rfl⟩
abbrev main_v54 : Ref sig .tc := ⟨.hbm, 78, rfl⟩
abbrev main_c_7 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_8 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_call1_cst : Ref sig .tc := ⟨.hbm, 98, rfl⟩
abbrev main_call1_v0 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_call2_cst : Ref sig .tc := ⟨.hbm, 106, rfl⟩
abbrev main_call2_v0 : Ref sig .tc := ⟨.hbm, 107, rfl⟩
abbrev main_v78 : Ref sig .tc := ⟨.hbm, 108, rfl⟩

abbrev nD : Nat := 1
abbrev τ : Topo := Topo.v7x

variable {F : FTy → Type} [FloatOps F]
-- ==== Proof.Frames.lean ====
/-
  The four programs' runs end with their arguments unchanged and every semaphore at zero.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section
namespace Cert.Frames
open Idealize.ShloMosaic Idealize.SL.Sem

variable [Cert.Pre_slices_and_scores.Facts]

/-- The reference's run leaves its arguments and every semaphore as they were, from any memory. -/
theorem reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same of the memories the value claim is about. -/
theorem reference_pre : Cert.quiescent_ReferenceIdeal_pre_slices_and_scores (hReferenceIdeal := Cert.ReferenceIdeal.Gen.facts) :=
  fun m ρ _ => reference m ρ trivial

/-- The kernel's run leaves its arguments and every semaphore as they were. -/
theorem kernel : Cert.quiescent_Kernel (hKernel := Cert.Kernel.Gen.facts) := fun m ρ _ => Cert.Kernel.Gen.frame m ρ

/-- The same of the idealized kernel. -/
theorem ideal : Cert.quiescent_KernelIdeal (hKernelIdeal := Cert.KernelIdeal.Gen.facts) := fun m ρ _ => Cert.KernelIdeal.Gen.frame m ρ

/-- The same of the memories the value claim is about. -/
theorem ideal_pre : Cert.quiescent_KernelIdeal_pre_slices_and_scores (hKernelIdeal := Cert.KernelIdeal.Gen.facts) :=
  fun m ρ _ => Cert.KernelIdeal.Gen.frame m ρ

end Cert.Frames
-- ==== Proof.Pool.lean ====
/-
  The softmax average of a run of tokens, kept as three running values: the greatest score so far, the sum of the
  weights relative to it, and the weighted sum of the values. Stated over the extended reals for any scores that are
  real numbers, with tokens numbered by the naturals and a predicate saying which of them belong.
-/
module

public import Idealize.ShloMosaic.PureOps.Ideal
public import Mathlib.Data.EReal.Inv

@[expose] public section

noncomputable section
namespace Cert.Pool
open Idealize.ShloMosaic
open Finset

variable (p : ℕ → Prop) [DecidablePred p] (σ : ℕ → EReal) (x : ℕ → EReal)

/-- The score of token `t` if it belongs, and `⊥` if it does not. -/
def key (t : ℕ) : EReal := if p t then σ t else ⊥

/-- The greatest score among the tokens below `n` that belong. -/
def top (n : ℕ) : EReal := (range n).sup (key p σ)

/-- The weight of token `t` relative to the level `M`: zero if it does not belong. -/
def wt (M : EReal) (t : ℕ) : EReal := if p t then Ideal.exp (σ t - M) else 0

/-- The weights of the first `n` tokens, relative to their greatest score, summed. -/
def mass (n : ℕ) : EReal := ∑ t ∈ range n, wt p σ (top p σ n) t

/-- The values of the first `n` tokens, weighted relative to their greatest score, summed. -/
def blend (n : ℕ) : EReal := ∑ t ∈ range n, wt p σ (top p σ n) t * x t

/-- The exponential of an extended real is nonnegative. -/
theorem exp_nonneg (y : EReal) : 0 ≤ Ideal.exp y := by
  induction y using EReal.rec with
  | bot => simp
  | top => simp
  | coe r => rw [Ideal.exp_coe]; exact_mod_cast (Real.exp_pos r).le

/-- A weight is nonnegative. -/
theorem wt_nonneg (M : EReal) (t : ℕ) : 0 ≤ wt p σ M t := by
  unfold wt; split
  · exact exp_nonneg _
  · exact le_refl _

/-- A sum of terms each multiplied by a nonnegative factor below `⊤` is the sum multiplied by it. -/
theorem sum_mul_of_nonneg {ι : Type*} (s : Finset ι) (f : ι → EReal) {c : EReal} (h0 : 0 ≤ c) (h1 : c ≠ ⊤) :
    (∑ i ∈ s, f i) * c = ∑ i ∈ s, f i * c := by
  classical
  induction s using Finset.induction_on with
  | empty => simp
  | insert a s ha ih =>
    rw [sum_insert ha, sum_insert ha, EReal.right_distrib_of_nonneg_of_ne_top h0 h1, ih]

/-- The greatest score is monotone in the number of tokens. -/
theorem top_mono {n n' : ℕ} (h : n ≤ n') : top p σ n ≤ top p σ n' :=
  Finset.sup_mono (range_subset_range.2 h)

/-- A token that belongs does not exceed the greatest score. -/
theorem le_top {n t : ℕ} (ht : t < n) (hp : p t) : σ t ≤ top p σ n := by
  have := Finset.le_sup (f := key p σ) (mem_range.2 ht)
  rwa [key, if_pos hp] at this

/-- The greatest score is never `⊤` when the scores are real. -/
theorem top_ne_top (hσ : ∀ t, ∃ r : ℝ, σ t = r) (n : ℕ) : top p σ n ≠ ⊤ := by
  refine ((Finset.sup_lt_iff (bot_lt_top : (⊥ : EReal) < ⊤)).2 fun t _ => ?_).ne
  obtain ⟨r, hr⟩ := hσ t
  unfold key; split
  · rw [hr]; exact EReal.coe_lt_top r
  · exact bot_lt_top

/-- Once a token belongs, the greatest score is a real number. -/
theorem top_real (hσ : ∀ t, ∃ r : ℝ, σ t = r) {n t : ℕ} (ht : t < n) (hp : p t) : ∃ r : ℝ, top p σ n = r := by
  have h1 := top_ne_top p σ hσ n
  have h2 : top p σ n ≠ ⊥ := by
    intro h
    have := le_top p σ ht hp
    obtain ⟨r, hr⟩ := hσ t
    rw [h, hr] at this
    exact absurd this (by simp)
  exact ⟨(top p σ n).toReal, (EReal.coe_toReal h1 h2).symm⟩

/-- The greatest score of `n + k` tokens is the greater of that of the first `n` and that of the rest. -/
theorem top_add (n k : ℕ) : top p σ (n + k) = max (top p σ n) ((range k).sup fun j => key p σ (n + j)) := by
  apply le_antisymm
  · refine Finset.sup_le fun t ht => ?_
    rw [mem_range] at ht
    by_cases h : t < n
    · exact le_max_of_le_left (Finset.le_sup (f := key p σ) (mem_range.2 h))
    · refine le_max_of_le_right ?_
      have := Finset.le_sup (f := fun j => key p σ (n + j)) (mem_range.2 (show t - n < k by omega))
      simpa [show n + (t - n) = t by omega] using this
  · refine max_le (top_mono p σ (by omega)) (Finset.sup_le fun j hj => ?_)
    rw [mem_range] at hj
    exact Finset.le_sup (f := key p σ) (mem_range.2 (show n + j < n + k by omega))

/-- The factor that moves weights from one level to a higher one is below `⊤`. -/
theorem exp_sub_ne_top {a b : EReal} (ha : a ≠ ⊤) (hab : a ≤ b) : Ideal.exp (a - b) ≠ ⊤ := by
  induction a using EReal.rec with
  | bot => simp
  | top => exact absurd rfl ha
  | coe r =>
    induction b using EReal.rec with
    | bot => exact absurd hab (by simp)
    | top => simp
    | coe q => rw [← EReal.coe_sub, Ideal.exp_coe]; exact EReal.coe_ne_top _

/-- A token's weight relative to an old level, multiplied by the factor to the new one, is its weight relative to the
    new level. -/
theorem wt_mul (hσ : ∀ t, ∃ r : ℝ, σ t = r) {n n' t : ℕ} (h : n ≤ n') (ht : t < n) :
    wt p σ (top p σ n) t * Ideal.exp (top p σ n - top p σ n') = wt p σ (top p σ n') t := by
  unfold wt; split
  · rename_i hp
    obtain ⟨a, ha⟩ := hσ t
    obtain ⟨b, hb⟩ := top_real p σ hσ ht hp
    obtain ⟨c, hc⟩ := top_real p σ hσ (lt_of_lt_of_le ht h) hp
    rw [ha, hb, hc, ← EReal.coe_sub, ← EReal.coe_sub, ← EReal.coe_sub, Ideal.exp_coe, Ideal.exp_coe, Ideal.exp_coe,
      ← EReal.coe_mul, ← Real.exp_add]
    congr 2; ring
  · simp

/-- The summed weights of `n + k` tokens: those of the first `n` moved to the new level, and the rest. -/
theorem mass_add (hσ : ∀ t, ∃ r : ℝ, σ t = r) (n k : ℕ) :
    mass p σ (n + k) = mass p σ n * Ideal.exp (top p σ n - top p σ (n + k))
      + ∑ j ∈ range k, wt p σ (top p σ (n + k)) (n + j) := by
  have h := top_mono p σ (show n ≤ n + k by omega)
  rw [mass, mass, sum_mul_of_nonneg _ _ (exp_nonneg _) (exp_sub_ne_top (top_ne_top p σ hσ n) h), sum_range_add]
  congr 1
  exact sum_congr rfl fun t ht => (wt_mul p σ hσ (by omega) (mem_range.1 ht)).symm

/-- The weighted values of `n + k` tokens, summed: those of the first `n` moved to the new level, and the rest. -/
theorem blend_add (hσ : ∀ t, ∃ r : ℝ, σ t = r) (n k : ℕ) :
    blend p σ x (n + k) = blend p σ x n * Ideal.exp (top p σ n - top p σ (n + k))
      + ∑ j ∈ range k, wt p σ (top p σ (n + k)) (n + j) * x (n + j) := by
  have h := top_mono p σ (show n ≤ n + k by omega)
  rw [blend, blend, sum_mul_of_nonneg _ _ (exp_nonneg _) (exp_sub_ne_top (top_ne_top p σ hσ n) h), sum_range_add]
  congr 1
  refine sum_congr rfl fun t ht => ?_
  rw [← wt_mul p σ hσ (show n ≤ n + k by omega) (mem_range.1 ht), mul_right_comm]

/-- Once a token belongs, the summed weights are a positive real number. -/
theorem mass_pos (hσ : ∀ t, ∃ r : ℝ, σ t = r) {n u : ℕ} (hu : u < n) (hp : p u) :
    ∃ r : ℝ, 0 < r ∧ mass p σ n = r := by
  obtain ⟨M, hM⟩ := top_real p σ hσ hu hp
  have hw : ∀ t, wt p σ (top p σ n) t = ((if p t then Real.exp ((σ t).toReal - M) else 0 : ℝ) : EReal) := by
    intro t
    obtain ⟨a, ha⟩ := hσ t
    unfold wt; split
    · rw [hM, ha, ← EReal.coe_sub, Ideal.exp_coe, EReal.toReal_coe]
    · simp
  refine ⟨∑ t ∈ range n, if p t then Real.exp ((σ t).toReal - M) else 0, ?_, ?_⟩
  · refine sum_pos' (fun t _ => ?_) ⟨u, mem_range.2 hu, ?_⟩
    · split
      · exact (Real.exp_pos _).le
      · exact le_refl _
    · rw [if_pos hp]; exact Real.exp_pos _
  · rw [mass]
    simp only [hw]
    exact (map_sum (⟨⟨fun r : ℝ => (r : EReal), EReal.coe_zero⟩, EReal.coe_add⟩ : ℝ →+ EReal) _ _).symm

/-- Dividing the weighted sum by the summed weights is summing the values times the weights so divided. -/
theorem blend_div (hσ : ∀ t, ∃ r : ℝ, σ t = r) {n u : ℕ} (hu : u < n) (hp : p u) :
    Ideal.div (blend p σ x n) (mass p σ n)
      = ∑ t ∈ range n, x t * Ideal.div (wt p σ (top p σ n) t) (mass p σ n) := by
  obtain ⟨r, hr, he⟩ := mass_pos p σ hσ hu hp
  have h0 : (0 : EReal) ≤ ((1 / r : ℝ) : EReal) := by exact_mod_cast (by positivity : (0 : ℝ) ≤ 1 / r)
  rw [he, Ideal.div_coe hr.ne', blend, sum_mul_of_nonneg _ _ h0 (EReal.coe_ne_top _)]
  refine sum_congr rfl fun t _ => ?_
  rw [Ideal.div_coe hr.ne', ← mul_assoc, mul_comm (x t)]

end Cert.Pool
-- ==== Proof.Spec.lean ====
/-
  The mathematics both programs compute: each token gets a score from two gated layers, the tokens of each slice are
  averaged under the softmax of their scores, and two more layers turn each average into one number.
-/
module

public import proofs.«01_k».proof.Proof.Pool
public import Idealize.ShloMosaic.Lib.Pointwise

@[expose] public section

noncomputable section
namespace Cert.Spec
open Idealize.ShloMosaic

/-- The row of the input that token `t` is. -/
def tok (t : ℕ) : Fin 32768 := ⟨t % 32768, Nat.mod_lt _ (by norm_num)⟩

/-- A token below the count is the row of its own number. -/
theorem tok_val {t : ℕ} (h : t < 32768) : (tok t).val = t := Nat.mod_eq_of_lt h

/-- The row of a row number is that row. -/
theorem tok_fin (t : Fin 32768) : tok t.val = t := Fin.ext (tok_val t.isLt)

/-- The boundary words read as integers. -/
def bd (idx : (⟨1, ![16]⟩ : Shape).Idx → BitVec 32) (b : Fin 16) : ℤ := (idx (ix1 b)).toInt

/-- The first token of slice `b`: the boundary before it, or zero. -/
def lo (e : Fin 16 → ℤ) (b : Fin 16) : ℤ := if b.val < 1 then 0 else e ⟨b.val - 1, by omega⟩

/-- Token `t` lies in slice `b`. -/
def Member (e : Fin 16 → ℤ) (b : Fin 16) (t : ℕ) : Prop := lo e b ≤ (t : ℤ) ∧ (t : ℤ) < e b

instance (e : Fin 16 → ℤ) (b : Fin 16) : DecidablePred (Member e b) := fun t => by unfold Member; infer_instance

/-- The boundaries `e` cut the tokens into slices that each hold one. -/
structure Cuts (e : Fin 16 → ℤ) : Prop where
  mono : StrictMono e
  first : 1 ≤ e 0
  last : e 15 ≤ 32768

/-- Boundaries are monotone, so a slice starts at or after every boundary before it. -/
theorem Cuts.le_lo {e : Fin 16 → ℤ} (h : Cuts e) {a b : Fin 16} (hab : a < b) : e a ≤ lo e b := by
  have hb : a.val < b.val := hab
  unfold lo; rw [if_neg (by omega)]
  exact h.mono.monotone (Fin.le_def.2 (by simp; omega))

/-- A token lies in at most one slice. -/
theorem Cuts.unique {e : Fin 16 → ℤ} (h : Cuts e) {a b : Fin 16} {t : ℕ} (ha : Member e a t) (hb : Member e b t) :
    a = b := by
  rcases lt_trichotomy a b with hab | hab | hab
  · have := h.le_lo hab; have := ha.2; have := hb.1; omega
  · exact hab
  · have := h.le_lo hab; have := hb.2; have := ha.1; omega

/-- Every slice holds a token. -/
theorem Cuts.nonempty {e : Fin 16 → ℤ} (h : Cuts e) (b : Fin 16) : ∃ t, t < 32768 ∧ Member e b t := by
  have h0 : 0 ≤ lo e b := by
    unfold lo; split
    · exact le_refl _
    · have := h.mono.monotone (Fin.zero_le (⟨b.val - 1, by omega⟩ : Fin 16)); have := h.first; omega
  have h1 : lo e b < e b := by
    unfold lo; split
    · rename_i hb
      have : b = 0 := Fin.ext (by simp; omega)
      subst this; have := h.first; omega
    · exact h.mono (Fin.lt_def.2 (by simp; omega))
  have h2 : e b ≤ 32768 := le_trans (h.mono.monotone (Fin.le_def.2 (by simp; omega))) h.last
  exact ⟨(lo e b).toNat, by omega, by constructor <;> omega⟩

/-- The number of boundaries at or below `t` is `b` exactly when `t` lies in slice `b`. -/
theorem Cuts.count_iff {e : Fin 16 → ℤ} (h : Cuts e) (b : Fin 16) (t : ℕ) :
    (Finset.univ.filter fun i => e i ≤ (t : ℤ)).card = b.val ↔ Member e b t := by
  constructor
  · intro hc
    constructor
    · by_contra hlt
      unfold lo at hlt
      split at hlt
      · omega
      · have hs : (Finset.univ.filter fun i => e i ≤ (t : ℤ)) ⊆ Finset.Iio (⟨b.val - 1, by omega⟩ : Fin 16) := by
          intro i hi
          rw [Finset.mem_filter] at hi
          rw [Finset.mem_Iio]
          by_contra hle
          have := h.mono.monotone (not_lt.1 hle)
          have := hi.2
          omega
        have := Finset.card_le_card hs
        rw [Fin.card_Iio] at this
        simp at this; omega
    · by_contra hge
      have hs : Finset.Iic b ⊆ (Finset.univ.filter fun i => e i ≤ (t : ℤ)) := by
        intro i hi
        rw [Finset.mem_Iic] at hi
        have := h.mono.monotone hi
        simp; omega
      have := Finset.card_le_card hs
      rw [Fin.card_Iic] at this
      omega
  · intro hm
    have hs : (Finset.univ.filter fun i => e i ≤ (t : ℤ)) = Finset.Iio b := by
      ext i
      simp only [Finset.mem_filter, Finset.mem_univ, true_and, Finset.mem_Iio]
      constructor
      · intro hi
        by_contra hle
        have := h.mono.monotone (not_lt.1 hle)
        have := hm.2
        omega
      · intro hi
        exact le_trans (h.le_lo hi) hm.1
    rw [hs, Fin.card_Iio]

section
variable (x : (⟨2, ![32768, 256]⟩ : Shape).Idx → EReal)
  (W : (⟨2, ![128, 256]⟩ : Shape).Idx → EReal) (b : (⟨1, ![128]⟩ : Shape).Idx → EReal)

/-- Entry `k` of a first layer at token `t`, before its activation. -/
def layer (t : ℕ) (k : Fin 128) : EReal := ∑ c : Fin 256, x (ix2 (tok t) c) * W (ix2 k c) + b (ix1 k)
end

section
variable (x : (⟨2, ![32768, 256]⟩ : Shape).Idx → EReal)
  (W1 : (⟨2, ![128, 256]⟩ : Shape).Idx → EReal) (b1 : (⟨1, ![128]⟩ : Shape).Idx → EReal)
  (W2 : (⟨2, ![128, 256]⟩ : Shape).Idx → EReal) (b2 : (⟨1, ![128]⟩ : Shape).Idx → EReal)
  (Ws : (⟨2, ![1, 128]⟩ : Shape).Idx → EReal) (bs : (⟨1, ![1]⟩ : Shape).Idx → EReal)

/-- The score of token `t`: the gated layers' product, weighted and summed, plus the last bias. -/
def score (t : ℕ) : EReal :=
  ∑ k : Fin 128, Ws (ix2 0 k) * (Ideal.tanh (layer x W1 b1 t k) * Ideal.logistic (layer x W2 b2 t k)) + bs (ix1 0)

/-- The hyperbolic tangent of an extended real is a real number. -/
theorem tanh_real (y : EReal) : ∃ r : ℝ, Ideal.tanh y = r := by
  induction y using EReal.rec with
  | bot => exact ⟨-1, by simp⟩
  | top => exact ⟨1, by simp⟩
  | coe r => exact ⟨_, Ideal.tanh_coe r⟩

/-- The logistic function of an extended real is a real number. -/
theorem logistic_real (y : EReal) : ∃ r : ℝ, Ideal.logistic y = r := by
  induction y using EReal.rec with
  | bot => exact ⟨0, by simp⟩
  | top => exact ⟨1, by simp⟩
  | coe r => exact ⟨_, Ideal.logistic_coe r⟩

/-- A sum of real numbers is a real number. -/
theorem sum_real {ι : Type*} (s : Finset ι) (f : ι → EReal) (h : ∀ i, ∃ r : ℝ, f i = r) :
    ∃ r : ℝ, ∑ i ∈ s, f i = r := by
  classical
  induction s using Finset.induction_on with
  | empty => exact ⟨0, by simp⟩
  | insert a s ha ih =>
    obtain ⟨u, hu⟩ := ih
    obtain ⟨v, hv⟩ := h a
    exact ⟨v + u, by rw [Finset.sum_insert ha, hu, hv, EReal.coe_add]⟩

/-- With the last layer of the score finite, every score is a real number. -/
theorem score_real (hw : ∀ k, ∃ r : ℝ, Ws (ix2 0 k) = r) (hb : ∃ r : ℝ, bs (ix1 0) = r) (t : ℕ) :
    ∃ r : ℝ, score x W1 b1 W2 b2 Ws bs t = r := by
  obtain ⟨u, hu⟩ := sum_real Finset.univ
    (fun k : Fin 128 => Ws (ix2 0 k) * (Ideal.tanh (layer x W1 b1 t k) * Ideal.logistic (layer x W2 b2 t k)))
    (fun k => by
      obtain ⟨a, ha⟩ := hw k
      obtain ⟨c, hc⟩ := tanh_real (layer x W1 b1 t k)
      obtain ⟨d, hd⟩ := logistic_real (layer x W2 b2 t k)
      exact ⟨a * (c * d), by rw [ha, hc, hd, EReal.coe_mul, EReal.coe_mul]⟩)
  obtain ⟨v, hv⟩ := hb
  exact ⟨u + v, by rw [score, hu, hv, EReal.coe_add]⟩
end

/-- Entry `c` of slice `b`'s average: the weighted sum of its tokens over the sum of its weights. -/
def pooled (e : Fin 16 → ℤ) (σ : ℕ → EReal) (x : (⟨2, ![32768, 256]⟩ : Shape).Idx → EReal) (b : Fin 16)
    (c : Fin 256) : EReal :=
  Ideal.div (Pool.blend (Member e b) σ (fun t => x (ix2 (tok t) c)) 32768) (Pool.mass (Member e b) σ 32768)

section
variable (p : Fin 16 → Fin 256 → EReal)
  (Wm1 : (⟨2, ![32, 256]⟩ : Shape).Idx → EReal) (bm1 : (⟨1, ![32]⟩ : Shape).Idx → EReal)
  (Wm2 : (⟨2, ![1, 32]⟩ : Shape).Idx → EReal) (bm2 : (⟨1, ![1]⟩ : Shape).Idx → EReal)

/-- The number the last two layers make of slice `b`'s average. -/
def head (b : Fin 16) : EReal :=
  max (∑ k : Fin 32, Wm2 (ix2 0 k) * max (∑ c : Fin 256, p b c * Wm1 (ix2 k c) + bm1 (ix1 k)) 0 + bm2 (ix1 0)) 0
end

end Cert.Spec
-- ==== Proof.Words.lean ====
/-
  Small facts of words, choices and maxima that the kernel and the reference share.
-/
module

public import Idealize.ShloMosaic.Lib.Pointwise

@[expose] public section

noncomputable section
namespace Cert.Words
open Idealize.ShloMosaic

/-- The word of minus infinity is `⊥`. -/
theorem negInf_eq : Ideal.ofBits FTy.f32 0xFF800000#32 = (⊥ : EReal) := by
  simp [Ideal.ofBits, Ideal.ieee]

/-- The zero word reads as zero. -/
theorem zero_eq : Ideal.ofBits FTy.f32 0x00000000#32 = (0 : EReal) := by
  simp [Ideal.ofBits, Ideal.ieee]

/-- The fold of `max` from `⊥` is the supremum. -/
theorem fold_max {n : ℕ} (f : Fin n → EReal) : Finset.univ.fold max ⊥ f = Finset.univ.sup f := rfl

/-- A supremum over the first `k` numbers is the one over `Fin k`. -/
theorem sup_fin (k : ℕ) (g : ℕ → EReal) : (Finset.univ.sup fun j : Fin k => g j.val) = (Finset.range k).sup g := by
  apply le_antisymm
  · exact Finset.sup_le fun j _ => Finset.le_sup (f := g) (Finset.mem_range.2 j.isLt)
  · refine Finset.sup_le fun t ht => ?_
    exact Finset.le_sup (f := fun j : Fin k => g j.val) (Finset.mem_univ (⟨t, Finset.mem_range.1 ht⟩ : Fin k))

/-- Choosing by a mark that is set exactly when `p` holds. -/
theorem select_iff {α : Type} {c : BitVec 1} {p : Prop} [Decidable p] (h : c = 1#1 ↔ p) (a b : α) :
    Scalar.select c a b = if p then a else b := by
  unfold Scalar.select
  by_cases hp : p
  · rw [if_pos hp]; exact if_pos (h.2 hp)
  · rw [if_neg hp]; exact if_neg fun hc => hp (h.1 hc)

/-- A signed comparison `≤` reads as the order of the integers. -/
theorem sle_iff (a b : BitVec 32) : IntOp.cmpi .sle a b = 1#1 ↔ a.toInt ≤ b.toInt := by
  rw [← BitVec.sle_iff_toInt_le]
  simp only [IntOp.cmpi]
  cases BitVec.sle a b <;> decide

/-- A signed comparison `<` reads as the order of the integers. -/
theorem slt_iff (a b : BitVec 32) : IntOp.cmpi .slt a b = 1#1 ↔ a.toInt < b.toInt := by
  rw [← BitVec.slt_iff_toInt_lt]
  simp only [IntOp.cmpi]
  cases BitVec.slt a b <;> decide

/-- The word comparison of equality. -/
theorem eq_iff (a b : BitVec 32) : IntOp.cmpi .eq a b = 1#1 ↔ a = b := by
  simp only [IntOp.cmpi]
  rw [← beq_iff_eq (a := a) (b := b)]
  cases a == b <;> decide

end Cert.Words
-- ==== Proof.Pay.lean ====
/-
  What the kernel's block arithmetic computes at an index: the scores of a half block, the slice a token lies in, the
  running maximum, weights and weighted sums, and the last two layers.
-/
module

public import proofs.«01_k».proof.Proof.Spec
public import proofs.«01_k».proof.Proof.Words
public import proofs.«01_k».proof.Proof.Gen.KernelIdeal.Skeleton
public import Idealize.ShloMosaic.Lib.Pointwise

@[expose] public section
set_option maxRecDepth 16384

noncomputable section
namespace Cert.KernelIdeal.Pay
open Idealize.ShloMosaic
open Cert.KernelIdeal Cert.KernelIdeal.Gen Cert.Spec Cert.Words

/-- The named mask constant is `⊥`. -/
theorem mask_eq : (Named.named κ "mask" 0xF149F2CA#32 : Ideal .f32) = (⊥ : EReal) :=
  IdealRules.named_const.ideal_named_scalar _ _ _ _ rfl

section Score
variable {x : (⟨2, ![32768, 256]⟩ : Shape).Idx → EReal}
  {W1 : (⟨2, ![128, 256]⟩ : Shape).Idx → EReal} {b1 : (⟨1, ![128]⟩ : Shape).Idx → EReal}
  {W2 : (⟨2, ![128, 256]⟩ : Shape).Idx → EReal} {b2 : (⟨1, ![128]⟩ : Shape).Idx → EReal}
  {Ws : (⟨2, ![1, 128]⟩ : Shape).Idx → EReal} {bs : (⟨1, ![1]⟩ : Shape).Idx → EReal}

/-- The stacked weights and biases hold the first layer's above the second's. -/
structure Stacked (W1 W2 : (⟨2, ![128, 256]⟩ : Shape).Idx → EReal) (b1 b2 : (⟨1, ![128]⟩ : Shape).Idx → EReal)
    (wc : Vec Ideal S256x256 .bf16) (bc : Vec Ideal S1x256 .f32) : Prop where
  w1 : ∀ (k : Fin 128) (c : Fin 256), wc (ix2 ⟨k.val, by omega⟩ c) = W1 (ix2 k c)
  w2 : ∀ (k : Fin 128) (c : Fin 256), wc (ix2 ⟨128 + k.val, by omega⟩ c) = W2 (ix2 k c)
  b1 : ∀ k : Fin 128, bc (ix2 0 ⟨k.val, by omega⟩) = b1 (ix1 k)
  b2 : ∀ k : Fin 128, bc (ix2 0 ⟨128 + k.val, by omega⟩) = b2 (ix1 k)

/-- A half block's scores, before the last bias: row `j` is token `n + j`. -/
theorem raw_apply {xh : Vec Ideal S4096x256 .f32} {wc : Vec Ideal S256x256 .bf16} {bc : Vec Ideal S1x256 .f32} {n : ℕ}
    (hx : ∀ (j : Fin 4096) (c : Fin 256), xh (ix2 j c) = x (ix2 (tok (n + j.val)) c)) (hs : Stacked W1 W2 b1 b2 wc bc)
    (j : Fin 4096) :
    k0_pay15 (F := Ideal) xh wc bc Ws (ix2 0 j)
      = ∑ k : Fin 128, Ws (ix2 0 k) * (Ideal.tanh (layer x W1 b1 (n + j.val) k) * Ideal.logistic (layer x W2 b2 (n + j.val) k)) := by
  unfold k0_pay15
  pointwise
  refine Finset.sum_congr rfl fun k _ => ?_
  simp only [layer, hx, hs.w1, hs.w2, hs.b1, hs.b2]

/-- The first half block's scores. -/
theorem scoreA_apply {xh : Vec Ideal S4096x256 .f32} {wc : Vec Ideal S256x256 .bf16} {bc : Vec Ideal S1x256 .f32}
    {bsv : Vec Ideal S1x1 .f32} {n : ℕ}
    (hx : ∀ (j : Fin 4096) (c : Fin 256), xh (ix2 j c) = x (ix2 (tok (n + j.val)) c)) (hs : Stacked W1 W2 b1 b2 wc bc)
    (hb : bsv (ix2 0 0) = bs (ix1 0)) (j : Fin 4096) :
    k0_pay16 (F := Ideal) (k0_pay15 xh wc bc Ws) bsv (ix2 0 j) = score x W1 b1 W2 b2 Ws bs (n + j.val) := by
  unfold k0_pay16
  pointwise
  rw [raw_apply hx hs, hb, score]

/-- The second half block's scores. -/
theorem scoreB_apply {xh : Vec Ideal S4096x256 .f32} {wc : Vec Ideal S256x256 .bf16} {bc : Vec Ideal S1x256 .f32}
    {bsv : Vec Ideal S1x1 .f32} {n : ℕ}
    (hx : ∀ (j : Fin 4096) (c : Fin 256), xh (ix2 j c) = x (ix2 (tok (n + j.val)) c)) (hs : Stacked W1 W2 b1 b2 wc bc)
    (hb : bsv (ix2 0 0) = bs (ix1 0)) (j : Fin 4096) :
    k0_pay18 (F := Ideal) xh wc bc Ws bsv (ix2 0 j) = score x W1 b1 W2 b2 Ws bs (n + j.val) :=
  scoreA_apply hx hs hb j
end Score

section Slices
/-- A sum of words of which one at most is nonzero: the entry at `b`. -/
theorem pick_one (f : Fin 16 → BitVec 32) (b : Fin 16) :
    (Finset.univ.fold IntOp.addi (0#32) fun k : Fin 16 =>
      Scalar.select (IntOp.cmpi .eq (BitVec.ofNat 32 b.val) (BitVec.ofNat 32 k.val)) (f k) 0#32) = f b := by
  have h : ∀ k : Fin 16, Scalar.select (IntOp.cmpi .eq (BitVec.ofNat 32 b.val) (BitVec.ofNat 32 k.val)) (f k) 0#32
      = if b = k then f k else 0#32 := by
    intro k
    by_cases hk : b = k
    · subst hk; simp [Scalar.select, IntOp.cmpi]
    · rw [if_neg hk]
      have : BitVec.ofNat 32 b.val ≠ BitVec.ofNat 32 k.val := by
        intro he
        have := congrArg BitVec.toNat he
        simp only [BitVec.toNat_ofNat] at this
        exact hk (Fin.ext (by omega))
      have h0 : (BitVec.ofNat 32 b.val == BitVec.ofNat 32 k.val) = false := beq_eq_false_iff_ne.2 this
      simp only [Scalar.select, IntOp.cmpi, h0]
      rfl
  simp only [h]
  have hf : ∀ s : Finset (Fin 16), (s.fold IntOp.addi (0#32) fun k : Fin 16 => if b = k then f k else 0#32)
      = if b ∈ s then f b else 0#32 := by
    intro s
    induction s using Finset.induction_on with
    | empty => rfl
    | insert a s ha ih =>
      rw [Finset.fold_insert ha, ih]
      by_cases hb : b = a
      · subst hb; rw [if_pos rfl, if_neg ha, if_pos (Finset.mem_insert_self _ _)]; exact BitVec.add_zero _
      · rw [if_neg hb, if_congr (Finset.mem_insert.trans (or_iff_right hb)) rfl rfl]; exact BitVec.zero_add _
  rw [hf, if_pos (Finset.mem_univ _)]

/-- The boundaries as a column: row `b` is boundary `b`. -/
theorem hi_apply (row : Vec Ideal S1x16 .i32) (b : Fin 16) :
    k0_pay13 (F := Ideal) row (ix2 b 0) = row (ix2 0 b) := by
  unfold k0_pay13
  pointwise
  exact pick_one (fun k => row (ix2 0 k)) b

/-- The slices' first tokens as a column: zero, then the boundary before. -/
theorem lo_apply (row : Vec Ideal S1x16 .i32) (b : Fin 16) :
    k0_pay14 (F := Ideal) row (ix2 b 0) = if h : b.val < 1 then 0#32 else row (ix2 0 ⟨b.val - 1, by omega⟩) := by
  unfold k0_pay14
  pointwise
  split
  · rfl
  · exact hi_apply row _

/-- A comparison of a token's number with two bounds, both words read signed. -/
theorem between_iff {p l h : BitVec 32} {t : ℕ} (hp : p.toInt = (t : ℤ)) :
    IntOp.andi (IntOp.cmpi .sge p l) (IntOp.cmpi .slt p h) = 1#1 ↔ l.toInt ≤ (t : ℤ) ∧ (t : ℤ) < h.toInt := by
  rw [← hp, ← BitVec.sle_iff_toInt_le, ← BitVec.slt_iff_toInt_lt]
  simp only [IntOp.andi, IntOp.cmpi]
  cases BitVec.sle l p <;> cases BitVec.slt p h <;> decide

/-- A token number below the count, as a word made of a block's base and a row, reads as itself. -/
theorem pos_toInt {w : BitVec 32} {n j : ℕ} (hw : w = BitVec.ofNat 32 n) (h : n + j < 32768) :
    (IntOp.addi w (BitVec.ofNat 32 j)).toInt = ((n + j : ℕ) : ℤ) := by
  subst hw
  have : IntOp.addi (BitVec.ofNat 32 n) (BitVec.ofNat 32 j) = BitVec.ofNat 32 (n + j) := by
    simp only [IntOp.addi]; exact (BitVec.ofNat_add _ _).symm
  rw [this, BitVec.toInt_eq_toNat_cond, BitVec.toNat_ofNat]
  split <;> omega

variable {idx : (⟨1, ![16]⟩ : Shape).Idx → BitVec 32} {row : Vec Ideal S1x16 .i32}

/-- A word that is `if`-chosen reads as the integer so chosen. -/
theorem lo_toInt (hr : ∀ b : Fin 16, row (ix2 0 b) = idx (ix1 b)) (b : Fin 16) :
    (k0_pay14 (F := Ideal) row (ix2 b 0)).toInt = lo (bd idx) b := by
  rw [lo_apply, lo]
  split
  · rfl
  · rw [hr]; rfl

/-- The first half block's mark of slice `b` at row `j` is set exactly when token `n + j` lies in the slice. -/
theorem markA_iff (hr : ∀ b : Fin 16, row (ix2 0 b) = idx (ix1 b)) {w : BitVec 32} {n : ℕ} (hw : w = BitVec.ofNat 32 n)
    (hn : n + 4096 ≤ 32768) (b : Fin 16) (j : Fin 4096) :
    k0_pay17 (k0_pay13 (F := Ideal) row) (k0_pay14 (F := Ideal) row) w (ix2 b j) = 1#1 ↔ Member (bd idx) b (n + j.val) := by
  unfold k0_pay17
  pointwise
  rw [between_iff (pos_toInt hw (by omega)), lo_toInt hr, hi_apply, hr]
  rfl

/-- The second half block's mark of slice `b` at row `j` is set exactly when token `n + j` lies in the slice. -/
theorem markB_iff (hr : ∀ b : Fin 16, row (ix2 0 b) = idx (ix1 b)) {i : BitVec 32} {n : ℕ}
    (hw : Scalar.muli (Scalar.addi (Scalar.muli 2#32 i) 1#32) 4096#32 = BitVec.ofNat 32 n)
    (hn : n + 4096 ≤ 32768) (b : Fin 16) (j : Fin 4096) :
    k0_pay19 i (k0_pay13 (F := Ideal) row) (k0_pay14 (F := Ideal) row) (ix2 b j) = 1#1 ↔ Member (bd idx) b (n + j.val) :=
  markA_iff hr hw hn b j
end Slices

section Step
/-- A block's scores and marks: its two halves hold the tokens from `n` and from `n + 4096`. -/
structure Block (e : Fin 16 → ℤ) (σ : ℕ → EReal) (n : ℕ) (sa sb : FVec Ideal S1x4096 .f32) (oa ob : IVec S16x4096 1) : Prop where
  sa : ∀ j : Fin 4096, sa (ix2 0 j) = σ (n + j.val)
  sb : ∀ j : Fin 4096, sb (ix2 0 j) = σ (n + 4096 + j.val)
  oa : ∀ (b : Fin 16) (j : Fin 4096), oa (ix2 b j) = 1#1 ↔ Member e b (n + j.val)
  ob : ∀ (b : Fin 16) (j : Fin 4096), ob (ix2 b j) = 1#1 ↔ Member e b (n + 4096 + j.val)

variable {e : Fin 16 → ℤ} {σ : ℕ → EReal} {n : ℕ} {sa sb : FVec Ideal S1x4096 .f32} {oa ob : IVec S16x4096 1}
  {m : FVec Ideal S16x1 .f32}

/-- The new running maximum is the greatest score of the slice's tokens so far. -/
theorem m_apply (B : Block e σ n sa sb oa ob) (hm : ∀ b : Fin 16, m (ix2 b 0) = Pool.top (Member e b) σ n) (b : Fin 16) :
    k0_pay20 (F := Ideal) sa oa sb ob m (Named.named κ "mask" 0xF149F2CA#32) (ix2 b 0)
      = Pool.top (Member e b) σ (n + 8192) := by
  unfold k0_pay20
  pointwise
  rw [show n + 8192 = n + 4096 + 4096 by omega, Pool.top_add, Pool.top_add, max_assoc, ← sup_fin, ← sup_fin, hm]
  simp only [mask_eq, negInf_eq, fold_max, select_iff (B.oa _ _), select_iff (B.ob _ _), B.sa, B.sb]
  rfl

/-- The greatest new maximum over the slices marked for a token is its own slice's. -/
theorem own_max (hc : Cuts e) {t : ℕ} {b : Fin 16} (hb : Member e b t) (f : Fin 16 → EReal) :
    (Finset.univ.sup fun a : Fin 16 => if Member e a t then f a else ⊥) = f b := by
  apply le_antisymm
  · refine Finset.sup_le fun a _ => ?_
    by_cases ha : Member e a t
    · rw [if_pos ha, hc.unique ha hb]
    · rw [if_neg ha]; exact bot_le
  · refine le_trans (le_of_eq ?_) (Finset.le_sup (Finset.mem_univ b))
    rw [if_pos hb]

/-- The first half block's weights. -/
theorem eA_apply (hc : Cuts e) (B : Block e σ n sa sb oa ob)
    (hm : ∀ b : Fin 16, m (ix2 b 0) = Pool.top (Member e b) σ n) (b : Fin 16) (j : Fin 4096) :
    k0_pay22 (F := Ideal) sa oa sb ob m (Named.named κ "mask" 0xF149F2CA#32) (ix2 b j)
      = Pool.wt (Member e b) σ (Pool.top (Member e b) σ (n + 8192)) (n + j.val) := by
  unfold k0_pay22
  pointwise
  simp only [m_apply B hm]
  simp only [mask_eq, negInf_eq, fold_max, select_iff (B.oa _ _), B.sa]
  unfold Pool.wt
  split
  · rename_i hb; rw [own_max hc hb]
  · rfl

/-- The second half block's weights. -/
theorem eB_apply (hc : Cuts e) (B : Block e σ n sa sb oa ob)
    (hm : ∀ b : Fin 16, m (ix2 b 0) = Pool.top (Member e b) σ n) (b : Fin 16) (j : Fin 4096) :
    k0_pay23 (F := Ideal) sa oa sb ob m (Named.named κ "mask" 0xF149F2CA#32) (ix2 b j)
      = Pool.wt (Member e b) σ (Pool.top (Member e b) σ (n + 8192)) (n + 4096 + j.val) := by
  unfold k0_pay23
  pointwise
  simp only [m_apply B hm]
  simp only [mask_eq, negInf_eq, fold_max, select_iff (B.ob _ _), B.sb]
  unfold Pool.wt
  split
  · rename_i hb; rw [own_max hc hb]
  · rfl

/-- The factor that moves the old sums to the new maximum. -/
theorem scale_apply (B : Block e σ n sa sb oa ob)
    (hm : ∀ b : Fin 16, m (ix2 b 0) = Pool.top (Member e b) σ n) (b : Fin 16) :
    k0_pay21 (F := Ideal) sa oa sb ob m (Named.named κ "mask" 0xF149F2CA#32) (ix2 b 0)
      = Ideal.exp (Pool.top (Member e b) σ n - Pool.top (Member e b) σ (n + 8192)) := by
  unfold k0_pay21
  pointwise
  rw [m_apply B hm, hm]

/-- The new sum of weights. -/
theorem s_apply (hc : Cuts e) (hσ : ∀ t, ∃ r : ℝ, σ t = r) (B : Block e σ n sa sb oa ob)
    (hm : ∀ b : Fin 16, m (ix2 b 0) = Pool.top (Member e b) σ n) {s : Vec Ideal S16x1 .f32}
    (hs : ∀ b : Fin 16, s (ix2 b 0) = Pool.mass (Member e b) σ n) (b : Fin 16) :
    k0_pay1 (k0_pay24 (F := Ideal) sa oa sb ob m (Named.named κ "mask" 0xF149F2CA#32) s)
        (k0_pay25 (F := Ideal) sa oa sb ob m (Named.named κ "mask" 0xF149F2CA#32)) (ix2 b 0)
      = Pool.mass (Member e b) σ (n + 8192) := by
  unfold k0_pay1 k0_pay24 k0_pay25
  pointwise
  rw [Pool.mass_add _ _ hσ, show (8192 : ℕ) = 4096 + 4096 by norm_num, Finset.sum_range_add, Finset.sum_range,
    Finset.sum_range, ← add_assoc]
  simp only [eA_apply hc B hm, eB_apply hc B hm, scale_apply B hm, hs, ← add_assoc]

/-- The new weighted sum of the tokens' rows. -/
theorem acc_apply (hc : Cuts e) (hσ : ∀ t, ∃ r : ℝ, σ t = r) (B : Block e σ n sa sb oa ob)
    (hm : ∀ b : Fin 16, m (ix2 b 0) = Pool.top (Member e b) σ n)
    {x : (⟨2, ![32768, 256]⟩ : Shape).Idx → EReal} {xa xb : Vec Ideal S4096x256 .f32}
    (ha : ∀ (j : Fin 4096) (c : Fin 256), xa (ix2 j c) = x (ix2 (tok (n + j.val)) c))
    (hb : ∀ (j : Fin 4096) (c : Fin 256), xb (ix2 j c) = x (ix2 (tok (n + 4096 + j.val)) c))
    {acc : Vec Ideal S16x256 .f32}
    (hacc : ∀ (b : Fin 16) (c : Fin 256), acc (ix2 b c) = Pool.blend (Member e b) σ (fun t => x (ix2 (tok t) c)) n)
    (b : Fin 16) (c : Fin 256) :
    k0_pay2 (F := Ideal) xa xb (k0_pay21 sa oa sb ob m (Named.named κ "mask" 0xF149F2CA#32))
        (k0_pay22 sa oa sb ob m (Named.named κ "mask" 0xF149F2CA#32))
        (k0_pay23 sa oa sb ob m (Named.named κ "mask" 0xF149F2CA#32)) acc (ix2 b c)
      = Pool.blend (Member e b) σ (fun t => x (ix2 (tok t) c)) (n + 8192) := by
  unfold k0_pay2
  pointwise
  rw [Pool.blend_add _ _ _ hσ, show (8192 : ℕ) = 4096 + 4096 by norm_num, Finset.sum_range_add, Finset.sum_range,
    Finset.sum_range, ← add_assoc]
  simp only [eA_apply hc B hm, eB_apply hc B hm, scale_apply B hm, hacc, ha, hb, ← add_assoc]
end Step

/-- The last two layers of the pooled rows. -/
theorem fin_apply {p : Fin 16 → Fin 256 → EReal} {acc : Vec Ideal S16x256 .f32} {s : Vec Ideal S16x1 .f32}
    (hp : ∀ b c, Ideal.div (acc (ix2 b c)) (s (ix2 b 0)) = p b c)
    {Wm1 : (⟨2, ![32, 256]⟩ : Shape).Idx → EReal} {bm1 : (⟨1, ![32]⟩ : Shape).Idx → EReal}
    {Wm2 : (⟨2, ![1, 32]⟩ : Shape).Idx → EReal} {bm2 : (⟨1, ![1]⟩ : Shape).Idx → EReal}
    {b1 : Vec Ideal S1x32 .f32} (h1 : ∀ k : Fin 32, b1 (ix2 0 k) = bm1 (ix1 k))
    {b2 : Vec Ideal S1x1 .f32} (h2 : b2 (ix2 0 0) = bm2 (ix1 0)) (b : Fin 16) :
    k0_pay4 (F := Ideal) acc s Wm1 b1 Wm2 b2 (ix2 0 b) = head p Wm1 bm1 Wm2 bm2 b := by
  unfold k0_pay4
  pointwise
  simp only [hp, h1, h2, head]

end Cert.KernelIdeal.Pay
-- ==== Proof.Blocks.lean ====
/-
  The blocks a grid point's windows hold, at an index, as entries of the launched arguments.
-/
module

public import proofs.«01_k».proof.Proof.Spec
public import proofs.«01_k».proof.Proof.Gen.KernelIdeal.Frame
public import Idealize.ShloMosaic.Lib.Pipeline.Value
public import Idealize.ShloMosaic.Lib.Pipeline.ValueKit
public import Idealize.ShloMosaic.Lib.Claim

@[expose] public section
set_option maxRecDepth 16384

noncomputable section
namespace Cert.KernelIdeal.Blocks
open Idealize.ShloMosaic Idealize.ShloMosaic.TcCoe Idealize.SL.Sem
open Cert.KernelIdeal Cert.KernelIdeal.Gen Cert.Spec

variable (m : (ℓ : Loc nD τ sig) → Buf (Elt Ideal) ℓ) (c : Dev nD)

/-- The input as launched on a device. -/
abbrev aX : (⟨2, ![32768, 256]⟩ : Shape).Idx → EReal := m ((c : Thread nD τ).loc main_arg0)
/-- The boundaries as launched on a device. -/
abbrev aIdx : (⟨1, ![16]⟩ : Shape).Idx → BitVec 32 := m ((c : Thread nD τ).loc main_arg1)
/-- The first weights as launched on a device. -/
abbrev aW1 : (⟨2, ![128, 256]⟩ : Shape).Idx → EReal := m ((c : Thread nD τ).loc main_arg2)
/-- The first bias as launched on a device. -/
abbrev aB1 : (⟨1, ![128]⟩ : Shape).Idx → EReal := m ((c : Thread nD τ).loc main_arg3)
/-- The second weights as launched on a device. -/
abbrev aW2 : (⟨2, ![128, 256]⟩ : Shape).Idx → EReal := m ((c : Thread nD τ).loc main_arg4)
/-- The second bias as launched on a device. -/
abbrev aB2 : (⟨1, ![128]⟩ : Shape).Idx → EReal := m ((c : Thread nD τ).loc main_arg5)
/-- The score weights as launched on a device. -/
abbrev aWs : (⟨2, ![1, 128]⟩ : Shape).Idx → EReal := m ((c : Thread nD τ).loc main_arg6)
/-- The score bias as launched on a device. -/
abbrev aBs : (⟨1, ![1]⟩ : Shape).Idx → EReal := m ((c : Thread nD τ).loc main_arg7)
/-- The hidden weights as launched on a device. -/
abbrev aWm1 : (⟨2, ![32, 256]⟩ : Shape).Idx → EReal := m ((c : Thread nD τ).loc main_arg8)
/-- The hidden bias as launched on a device. -/
abbrev aBm1 : (⟨1, ![32]⟩ : Shape).Idx → EReal := m ((c : Thread nD τ).loc main_arg9)
/-- The last weights as launched on a device. -/
abbrev aWm2 : (⟨2, ![1, 32]⟩ : Shape).Idx → EReal := m ((c : Thread nD τ).loc main_arg10)
/-- The last bias as launched on a device. -/
abbrev aBm2 : (⟨1, ![1]⟩ : Shape).Idx → EReal := m ((c : Thread nD τ).loc main_arg11)

/-- The windows' block indices at every grid point, decided. -/
theorem index_eq : ∀ t : Fin cfg0.N,
    (grid0.coords t 0).val = t.val ∧ win0_0.index t = ![0, 0] ∧ win0_1.index t = ![2 * t.val, 0]
    ∧ win0_2.index t = ![2 * t.val + 1, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0]
    ∧ win0_13.index t = ![0, 0] := by decide +kernel

/-- The first input block at point `t` holds the tokens from `8192 t`. -/
theorem blk1 (t : Fin cfg0.N) (j : Fin 4096) (k : Fin 256) :
    iblk m c 1 t (ix2 j k) = aX m c (ix2 (tok (8192 * t.val + j.val)) k) := by
  have hN : t.val < 4 := t.isLt
  have ht := tok_val (show 8192 * t.val + j.val < 32768 by omega)
  blk_ext [iblk, V, index_eq t]

/-- The second input block at point `t` holds the tokens from `8192 t + 4096`. -/
theorem blk2 (t : Fin cfg0.N) (j : Fin 4096) (k : Fin 256) :
    iblk m c 2 t (ix2 j k) = aX m c (ix2 (tok (8192 * t.val + 4096 + j.val)) k) := by
  have hN : t.val < 4 := t.isLt
  have ht := tok_val (show 8192 * t.val + 4096 + j.val < 32768 by omega)
  blk_ext [iblk, V, index_eq t]

/-- The first weights' block is the whole array. -/
theorem blk3 (t : Fin cfg0.N) : iblk m c 3 t = aW1 m c := by
  funext y; blk_ext [iblk, V, index_eq t]

/-- The second weights' block is the whole array. -/
theorem blk5 (t : Fin cfg0.N) : iblk m c 5 t = aW2 m c := by
  funext y; blk_ext [iblk, V, index_eq t]

/-- The score weights' block is the whole array. -/
theorem blk7 (t : Fin cfg0.N) : iblk m c 7 t = aWs m c := by
  funext y; blk_ext [iblk, V, index_eq t]

/-- The hidden weights' block is the whole array. -/
theorem blk9 (t : Fin cfg0.N) : iblk m c 9 t = aWm1 m c := by
  funext y; blk_ext [iblk, V, index_eq t]

/-- The last weights' block is the whole array. -/
theorem blk11 (t : Fin cfg0.N) : iblk m c 11 t = aWm2 m c := by
  funext y; blk_ext [iblk, V, index_eq t]

/-- The boundaries as the row the region finds. -/
theorem entry0 (k : Fin 16) : V m c main_v0 (ix2 0 k) = aIdx m c (ix1 k) := by
  simp only [V, V0, hostOps0, List.flatten_cons, List.flatten_nil, List.append_nil]
  entry_read
  pointwise

/-- The boundaries's block is the whole row. -/
theorem blk0 (t : Fin cfg0.N) (k : Fin 16) : iblk m c 0 t (ix2 0 k) = aIdx m c (ix1 k) := by
  refine Eq.trans (b := V m c main_v0 (ix2 0 k)) ?_ (entry0 m c k)
  blk_ext [iblk, V, index_eq t]

/-- The first bias as the row the region finds. -/
theorem entry4 (k : Fin 128) : V m c main_v1 (ix2 0 k) = aB1 m c (ix1 k) := by
  simp only [V, V0, hostOps0, List.flatten_cons, List.flatten_nil, List.append_nil]
  entry_read
  pointwise

/-- The first bias's block is the whole row. -/
theorem blk4 (t : Fin cfg0.N) (k : Fin 128) : iblk m c 4 t (ix2 0 k) = aB1 m c (ix1 k) := by
  refine Eq.trans (b := V m c main_v1 (ix2 0 k)) ?_ (entry4 m c k)
  blk_ext [iblk, V, index_eq t]

/-- The second bias as the row the region finds. -/
theorem entry6 (k : Fin 128) : V m c main_v2 (ix2 0 k) = aB2 m c (ix1 k) := by
  simp only [V, V0, hostOps0, List.flatten_cons, List.flatten_nil, List.append_nil]
  entry_read
  pointwise

/-- The second bias's block is the whole row. -/
theorem blk6 (t : Fin cfg0.N) (k : Fin 128) : iblk m c 6 t (ix2 0 k) = aB2 m c (ix1 k) := by
  refine Eq.trans (b := V m c main_v2 (ix2 0 k)) ?_ (entry6 m c k)
  blk_ext [iblk, V, index_eq t]

/-- The score bias as the row the region finds. -/
theorem entry8 (k : Fin 1) : V m c main_v3 (ix2 0 k) = aBs m c (ix1 k) := by
  simp only [V, V0, hostOps0, List.flatten_cons, List.flatten_nil, List.append_nil]
  entry_read
  pointwise
  rw [Subsingleton.elim k 0]

/-- The score bias's block is the whole row. -/
theorem blk8 (t : Fin cfg0.N) (k : Fin 1) : iblk m c 8 t (ix2 0 k) = aBs m c (ix1 k) := by
  refine Eq.trans (b := V m c main_v3 (ix2 0 k)) ?_ (entry8 m c k)
  blk_ext [iblk, V, index_eq t]

/-- The hidden bias as the row the region finds. -/
theorem entry10 (k : Fin 32) : V m c main_v4 (ix2 0 k) = aBm1 m c (ix1 k) := by
  simp only [V, V0, hostOps0, List.flatten_cons, List.flatten_nil, List.append_nil]
  entry_read
  pointwise

/-- The hidden bias's block is the whole row. -/
theorem blk10 (t : Fin cfg0.N) (k : Fin 32) : iblk m c 10 t (ix2 0 k) = aBm1 m c (ix1 k) := by
  refine Eq.trans (b := V m c main_v4 (ix2 0 k)) ?_ (entry10 m c k)
  blk_ext [iblk, V, index_eq t]

/-- The last bias as the row the region finds. -/
theorem entry12 (k : Fin 1) : V m c main_v5 (ix2 0 k) = aBm2 m c (ix1 k) := by
  simp only [V, V0, hostOps0, List.flatten_cons, List.flatten_nil, List.append_nil]
  entry_read
  pointwise
  rw [Subsingleton.elim k 0]

/-- The last bias's block is the whole row. -/
theorem blk12 (t : Fin cfg0.N) (k : Fin 1) : iblk m c 12 t (ix2 0 k) = aBm2 m c (ix1 k) := by
  refine Eq.trans (b := V m c main_v5 (ix2 0 k)) ?_ (entry12 m c k)
  blk_ext [iblk, V, index_eq t]

end Cert.KernelIdeal.Blocks
-- ==== Proof.Found.lean ====
/-
  What the kernel leaves in its scratch and its output after a grid point, as its block arithmetic over the point's
  input blocks and what the point before left.
-/
module

public import proofs.«01_k».proof.Proof.Gen.KernelIdeal.Frame
public import Idealize.ShloMosaic.Lib.Pipeline.Value
public import Idealize.ShloMosaic.Lib.Pipeline.ValueKit
public import Idealize.ShloMosaic.Lib.Pipeline.ReadBack

@[expose] public section
set_option maxRecDepth 16384

noncomputable section
namespace Cert.KernelIdeal.Found
open Idealize.ShloMosaic Idealize.ShloMosaic.TcCoe Idealize.SL.Sem
open Cert.KernelIdeal Cert.KernelIdeal.Gen

/-- A load of a whole buffer after stores reads what the stores left. -/
theorem readCov_all {Val : EltTy → Type} [∀ e, Nonempty (Val e)] {S : Shape} {e : EltTy} {sg : RefSig} {κ : Kind} {sp : Space}
    (v : View sg κ sp S e) (L : List (View.Piece Val S e)) {off : Fin S.rank → Nat} (inb : ∀ a, off a + S.size a ≤ S.size a)
    (h : ∀ a, off a = 0) : v.readCov L (Rect.unit off (no_index S.size) inb).toLoadRect = View.canon L :=
  (View.readCov_eq_canon' v L _).trans (View.ld_unit_lit inb (View.canon L) h)

section
variable (i : BitVec 32) (row : Vec Ideal S1x16 .i32) (xa xb : Vec Ideal S4096x256 .f32) (ws : Vec Ideal S1x128 .f32)
  (bsv : Vec Ideal S1x1 .f32) (wc : Vec Ideal S256x256 .bf16) (bc : Vec Ideal S1x256 .f32)

/-- The first half's scores. -/
def sa : FVec Ideal S1x4096 .f32 := k0_pay16 (k0_pay15 xa wc bc ws) bsv

/-- The second half's scores. -/
def sb : FVec Ideal S1x4096 .f32 := k0_pay18 xb wc bc ws bsv

/-- The first half's slice marks. -/
def oa : IVec S16x4096 1 :=
  k0_pay17 (k0_pay13 (F := Ideal) row) (k0_pay14 (F := Ideal) row) (Scalar.muli (Scalar.muli 2#32 i) 4096#32)

/-- The second half's slice marks. -/
def ob : IVec S16x4096 1 := k0_pay19 i (k0_pay13 (F := Ideal) row) (k0_pay14 (F := Ideal) row)

/-- The running maximum after a point. -/
def newM (m : Vec Ideal S16x1 .f32) : Vec Ideal S16x1 .f32 :=
  k0_pay3 (k0_pay20 (sa xa ws bsv wc bc) (oa i row) (sb xb ws bsv wc bc) (ob i row) m (Named.named κ "mask" 0xF149F2CA#32))

/-- The running sum of weights after a point. -/
def newS (m s : Vec Ideal S16x1 .f32) : Vec Ideal S16x1 .f32 :=
  k0_pay1
    (k0_pay24 (sa xa ws bsv wc bc) (oa i row) (sb xb ws bsv wc bc) (ob i row) m (Named.named κ "mask" 0xF149F2CA#32) s)
    (k0_pay25 (sa xa ws bsv wc bc) (oa i row) (sb xb ws bsv wc bc) (ob i row) m (Named.named κ "mask" 0xF149F2CA#32))

/-- The running weighted sum after a point. -/
def newAcc (m : Vec Ideal S16x1 .f32) (acc : Vec Ideal S16x256 .f32) : Vec Ideal S16x256 .f32 :=
  k0_pay2 xa xb
    (k0_pay21 (sa xa ws bsv wc bc) (oa i row) (sb xb ws bsv wc bc) (ob i row) m (Named.named κ "mask" 0xF149F2CA#32))
    (k0_pay22 (sa xa ws bsv wc bc) (oa i row) (sb xb ws bsv wc bc) (ob i row) m (Named.named κ "mask" 0xF149F2CA#32))
    (k0_pay23 (sa xa ws bsv wc bc) (oa i row) (sb xb ws bsv wc bc) (ob i row) m (Named.named κ "mask" 0xF149F2CA#32)) acc
end

/-- The stacked weights the first point stores: the first layer's over the second's. -/
def wc0 (w1 w2 : Vec Ideal S128x256 .f32) : Vec Ideal S256x256 .bf16 :=
  View.canon [⟨Rect.unit ![128, 0] S128x256.size inb_S256x256_S128x256_128_0, k0_pay9 w2⟩,
    ⟨Rect.unit ![0, 0] S128x256.size inb_S256x256_S128x256_0_0, k0_pay8 w1⟩]

/-- The joined biases the first point stores: the first layer's before the second's. -/
def bc0 (b1 b2 : Vec Ideal S1x128 .f32) : Vec Ideal S1x256 .f32 :=
  View.canon [⟨Rect.unit ![0, 128] S1x128.size inb_S1x256_S1x128_0_128, k0_pay12 (k0_pay11 b2)⟩,
    ⟨Rect.unit ![0, 0] S1x128.size inb_S1x256_S1x128_0_0, k0_pay10 b1⟩]

variable (m : (ℓ : Loc nD τ sig) → Buf (Elt Ideal) ℓ) (c : Dev nD) (t : Fin cfg0.N)

/-- What a point leaves: output row, running maximum, sum of weights, weighted sum, stacked weights, joined biases. -/
abbrev left (n : ℕ) (hn : n < cfg0.N) := outsAt0 m c n hn

/-- The number of the grid point as the kernel reads it. -/
abbrev gi : BitVec 32 := BitVec.ofNat 32 (grid0.coords t 0).val

section First
variable (h0 : t.val % 4 = 0) (h1 : ¬t.val % 4 = 3)
include h0 h1

/-- The first point leaves the running maximum, from `⊥`. -/
theorem first_m : (left m c t.val t.isLt).2.1
    = newM (gi t) (iblk m c 0 t) (iblk m c 1 t) (iblk m c 2 t) (iblk m c 7 t) (iblk m c 8 t)
        (wc0 (iblk m c 3 t) (iblk m c 5 t)) (bc0 (iblk m c 4 t) (iblk m c 6 t)) (k0_pay5 (F := Ideal)) := by
  rw [left, outsAt0_A m c t h0 h1]
  frame_out
  simp (disch := decide) only [readCov_all]
  rfl

/-- The first point leaves the sum of weights, from zero. -/
theorem first_s : (left m c t.val t.isLt).2.2.1
    = newS (gi t) (iblk m c 0 t) (iblk m c 1 t) (iblk m c 2 t) (iblk m c 7 t) (iblk m c 8 t)
        (wc0 (iblk m c 3 t) (iblk m c 5 t)) (bc0 (iblk m c 4 t) (iblk m c 6 t)) (k0_pay5 (F := Ideal)) (k0_pay6 (F := Ideal)) := by
  rw [left, outsAt0_A m c t h0 h1]
  frame_out
  simp (disch := decide) only [readCov_all]
  rfl

/-- The first point leaves the weighted sum, from zero. -/
theorem first_acc : (left m c t.val t.isLt).2.2.2.1
    = newAcc (gi t) (iblk m c 0 t) (iblk m c 1 t) (iblk m c 2 t) (iblk m c 7 t) (iblk m c 8 t)
        (wc0 (iblk m c 3 t) (iblk m c 5 t)) (bc0 (iblk m c 4 t) (iblk m c 6 t)) (k0_pay5 (F := Ideal)) (k0_pay7 (F := Ideal)) := by
  rw [left, outsAt0_A m c t h0 h1]
  frame_out
  simp (disch := decide) only [readCov_all]
  rfl

/-- The first point leaves the stacked weights. -/
theorem first_wc : (left m c t.val t.isLt).2.2.2.2.1
    = wc0 (iblk m c 3 t) (iblk m c 5 t) := by
  rw [left, outsAt0_A m c t h0 h1]
  frame_out

/-- The first point leaves the joined biases. -/
theorem first_bc : (left m c t.val t.isLt).2.2.2.2.2
    = bc0 (iblk m c 4 t) (iblk m c 6 t) := by
  rw [left, outsAt0_A m c t h0 h1]
  frame_out

end First

section Later
variable (h0 : ¬t.val % 4 = 0)
include h0

/-- A later point moves the running maximum on. -/
theorem later_m : (left m c t.val t.isLt).2.1
    = newM (gi t) (iblk m c 0 t) (iblk m c 1 t) (iblk m c 2 t) (iblk m c 7 t) (iblk m c 8 t)
        (left m c (t.val - 1) (by omega)).2.2.2.2.1 (left m c (t.val - 1) (by omega)).2.2.2.2.2
        (left m c (t.val - 1) (by omega)).2.1 := by
  by_cases h1 : t.val % 4 = 3
  · rw [left, outsAt0_C m c t h0 h1]
    frame_out
    simp only [read_unread_whole]
    rfl
  · rw [left, outsAt0_B m c t h0 h1]
    frame_out
    simp only [read_unread_whole]
    rfl

/-- A later point moves the sum of weights on. -/
theorem later_s : (left m c t.val t.isLt).2.2.1
    = newS (gi t) (iblk m c 0 t) (iblk m c 1 t) (iblk m c 2 t) (iblk m c 7 t) (iblk m c 8 t)
        (left m c (t.val - 1) (by omega)).2.2.2.2.1 (left m c (t.val - 1) (by omega)).2.2.2.2.2
        (left m c (t.val - 1) (by omega)).2.1 (left m c (t.val - 1) (by omega)).2.2.1 := by
  by_cases h1 : t.val % 4 = 3
  · rw [left, outsAt0_C m c t h0 h1]
    frame_out
    simp only [read_unread_whole]
    rfl
  · rw [left, outsAt0_B m c t h0 h1]
    frame_out
    simp only [read_unread_whole]
    rfl

/-- A later point moves the weighted sum on. -/
theorem later_acc : (left m c t.val t.isLt).2.2.2.1
    = newAcc (gi t) (iblk m c 0 t) (iblk m c 1 t) (iblk m c 2 t) (iblk m c 7 t) (iblk m c 8 t)
        (left m c (t.val - 1) (by omega)).2.2.2.2.1 (left m c (t.val - 1) (by omega)).2.2.2.2.2
        (left m c (t.val - 1) (by omega)).2.1 (left m c (t.val - 1) (by omega)).2.2.2.1 := by
  by_cases h1 : t.val % 4 = 3
  · rw [left, outsAt0_C m c t h0 h1]
    frame_out
    simp only [read_unread_whole]
    rfl
  · rw [left, outsAt0_B m c t h0 h1]
    frame_out
    simp only [read_unread_whole]
    rfl

/-- A later point keeps the stacked weights. -/
theorem later_wc : (left m c t.val t.isLt).2.2.2.2.1 = (left m c (t.val - 1) (by omega)).2.2.2.2.1 := by
  by_cases h1 : t.val % 4 = 3
  · rw [left, outsAt0_C m c t h0 h1]; rfl
  · rw [left, outsAt0_B m c t h0 h1]; rfl

/-- A later point keeps the joined biases. -/
theorem later_bc : (left m c t.val t.isLt).2.2.2.2.2 = (left m c (t.val - 1) (by omega)).2.2.2.2.2 := by
  by_cases h1 : t.val % 4 = 3
  · rw [left, outsAt0_C m c t h0 h1]; rfl
  · rw [left, outsAt0_B m c t h0 h1]; rfl

/-- The last point leaves the last layers of the weighted sum over the sum of weights in the output row. -/
theorem last_out (h1 : t.val % 4 = 3) : (left m c t.val t.isLt).1
    = k0_pay4 (left m c t.val t.isLt).2.2.2.1 (left m c t.val t.isLt).2.2.1 (iblk m c 9 t) (iblk m c 10 t)
        (iblk m c 11 t) (iblk m c 12 t) := by
  rw [later_acc m c t h0, later_s m c t h0, left, outsAt0_C m c t h0 h1]
  frame_out
  simp only [read_unread_whole]
  rfl
end Later

end Cert.KernelIdeal.Found
-- ==== Proof.State.lean ====
/-
  What the kernel's scratch holds after each grid point: the running maximum, sum of weights and weighted sum of every
  slice over the tokens seen so far, and the stacked layers.
-/
module

public import proofs.«01_k».proof.Proof.Pay
public import proofs.«01_k».proof.Proof.Blocks
public import proofs.«01_k».proof.Proof.Found

@[expose] public section
set_option maxRecDepth 16384

noncomputable section
namespace Cert.KernelIdeal.State
open Idealize.ShloMosaic Idealize.ShloMosaic.TcCoe Idealize.SL.Sem
open Cert.KernelIdeal Cert.KernelIdeal.Gen Cert.KernelIdeal.Blocks Cert.KernelIdeal.Found Cert.KernelIdeal.Pay Cert.Spec

/-- The stacked weights and joined biases the first point stores are the two layers'. -/
theorem stacked0 {W1 W2 : Vec Ideal S128x256 .f32} {r1 r2 : Vec Ideal S1x128 .f32}
    {b1 b2 : (⟨1, ![128]⟩ : Shape).Idx → EReal} (h1 : ∀ k, r1 (ix2 0 k) = b1 (ix1 k)) (h2 : ∀ k, r2 (ix2 0 k) = b2 (ix1 k)) :
    Stacked W1 W2 b1 b2 (wc0 W1 W2) (bc0 r1 r2) where
  w1 k c := by
    unfold wc0
    rw [View.canon_cons_of_not_mem _ _ (by
      rw [Rect.mem_set_unit]; intro h; have := (h 0).1; simp at this; omega)]
    rw [show (ix2 (⟨k.val, by omega⟩ : Fin 256) c : S256x256.Idx)
      = (Rect.unit (s := S256x256) ![0, 0] S128x256.size inb_S256x256_S128x256_0_0).emb (ix2 k c) by
        funext a; fin_cases a <;> apply Fin.ext <;> simp [Rect.unit, Rect.emb]]
    rw [View.canon_cons_emb]
    unfold k0_pay8
    pointwise
  w2 k c := by
    unfold wc0
    rw [show (ix2 (⟨128 + k.val, by omega⟩ : Fin 256) c : S256x256.Idx)
      = (Rect.unit (s := S256x256) ![128, 0] S128x256.size inb_S256x256_S128x256_128_0).emb (ix2 k c) by
        funext a; fin_cases a <;> apply Fin.ext <;> simp [Rect.unit, Rect.emb]]
    rw [View.canon_cons_emb]
    unfold k0_pay9
    pointwise
  b1 k := by
    unfold bc0
    rw [View.canon_cons_of_not_mem _ _ (by
      rw [Rect.mem_set_unit]; intro h; have := (h 1).1; simp at this; omega)]
    rw [show (ix2 (0 : Fin 1) (⟨k.val, by omega⟩ : Fin 256) : S1x256.Idx)
      = (Rect.unit (s := S1x256) ![0, 0] S1x128.size inb_S1x256_S1x128_0_0).emb (ix2 0 k) by
        funext a; fin_cases a <;> apply Fin.ext <;> simp [Rect.unit, Rect.emb]]
    rw [View.canon_cons_emb, ← h1]
    unfold k0_pay10
    pointwise
  b2 k := by
    unfold bc0
    rw [show (ix2 (0 : Fin 1) (⟨128 + k.val, by omega⟩ : Fin 256) : S1x256.Idx)
      = (Rect.unit (s := S1x256) ![0, 128] S1x128.size inb_S1x256_S1x128_0_128).emb (ix2 0 k) by
        funext a; fin_cases a <;> apply Fin.ext <;> simp [Rect.unit, Rect.emb]]
    rw [View.canon_cons_emb, ← h2]
    unfold k0_pay12 k0_pay11
    pointwise

/-- The running maximum starts at `⊥`. -/
theorem start_m (b : Fin 16) : k0_pay5 (F := Ideal) (ix2 b 0) = (⊥ : EReal) := by
  unfold k0_pay5
  pointwise
  exact mask_eq

/-- The sum of weights starts at zero. -/
theorem start_s (b : Fin 16) : k0_pay6 (F := Ideal) (ix2 b 0) = (0 : EReal) := by
  unfold k0_pay6
  pointwise

/-- The weighted sum starts at zero. -/
theorem start_acc (b : Fin 16) (c : Fin 256) : k0_pay7 (F := Ideal) (ix2 b c) = (0 : EReal) := by
  unfold k0_pay7
  pointwise

/-- The first half's base word is its first token's number. -/
theorem word_a : ∀ t : Fin 4, Scalar.muli (Scalar.muli 2#32 (BitVec.ofNat 32 t.val)) 4096#32 = BitVec.ofNat 32 (8192 * t.val) := by
  decide

/-- The second half's base word is its first token's number. -/
theorem word_b : ∀ t : Fin 4,
    Scalar.muli (Scalar.addi (Scalar.muli 2#32 (BitVec.ofNat 32 t.val)) 1#32) 4096#32 = BitVec.ofNat 32 (8192 * t.val + 4096) := by
  decide

variable (m : (ℓ : Loc nD τ sig) → Buf (Elt Ideal) ℓ) (c : Dev nD)

/-- The scores of the launched arguments. -/
abbrev sc : ℕ → EReal := score (aX m c) (aW1 m c) (aB1 m c) (aW2 m c) (aB2 m c) (aWs m c) (aBs m c)

/-- The launched boundaries. -/
abbrev cut : Fin 16 → ℤ := bd (aIdx m c)

/-- The launched layers are stacked in the two buffers. -/
abbrev Layers (wc : Vec Ideal S256x256 .bf16) (bc : Vec Ideal S1x256 .f32) : Prop :=
  Stacked (aW1 m c) (aW2 m c) (aB1 m c) (aB2 m c) wc bc

/-- A grid point's blocks, scores and marks belong to the 8192 tokens from `8192 t`. -/
theorem block (t : Fin cfg0.N) {wc : Vec Ideal S256x256 .bf16} {bc : Vec Ideal S1x256 .f32} (hs : Layers m c wc bc) :
    Block (cut m c) (sc m c) (8192 * t.val)
      (sa (iblk m c 1 t) (iblk m c 7 t) (iblk m c 8 t) wc bc) (sb (iblk m c 2 t) (iblk m c 7 t) (iblk m c 8 t) wc bc)
      (oa (gi t) (iblk m c 0 t)) (ob (gi t) (iblk m c 0 t)) := by
  have hg : gi t = BitVec.ofNat 32 t.val := by rw [gi, (index_eq t).1]
  have hN : t.val < 4 := t.isLt
  refine ⟨fun j => ?_, fun j => ?_, fun b j => ?_, fun b j => ?_⟩
  · rw [blk7]
    exact scoreA_apply (blk1 m c t) hs (blk8 m c t 0) j
  · rw [blk7]
    exact scoreB_apply (blk2 m c t) hs (blk8 m c t 0) j
  · refine markA_iff (blk0 m c t) ?_ (by omega) b j
    rw [hg]; exact word_a ⟨t.val, hN⟩
  · refine markB_iff (blk0 m c t) ?_ (by omega) b j
    rw [hg]; exact word_b ⟨t.val, hN⟩

/-- The scratch holds the slices' maxima, weight sums and weighted sums over the first `n` tokens. -/
structure Upto (n : ℕ) (M s : Vec Ideal S16x1 .f32) (acc : Vec Ideal S16x256 .f32) : Prop where
  max : ∀ b : Fin 16, M (ix2 b 0) = Pool.top (Member (cut m c) b) (sc m c) n
  sum : ∀ b : Fin 16, s (ix2 b 0) = Pool.mass (Member (cut m c) b) (sc m c) n
  acc : ∀ (b : Fin 16) (k : Fin 256),
    acc (ix2 b k) = Pool.blend (Member (cut m c) b) (sc m c) (fun t => aX m c (ix2 (tok t) k)) n

/-- Before the first token the scratch holds its start values. -/
theorem upto_zero : Upto m c 0 (k0_pay5 (F := Ideal)) (k0_pay6 (F := Ideal)) (k0_pay7 (F := Ideal)) where
  max b := start_m b
  sum b := (start_s b).trans (by simp [Pool.mass])
  acc b k := (start_acc b k).trans (by simp [Pool.blend])

section
variable (hc : Cuts (cut m c)) (hσ : ∀ t, ∃ r : ℝ, sc m c t = r)
include hc hσ

/-- One grid point moves the scratch on by 8192 tokens. -/
theorem upto_step (t : Fin cfg0.N) {wc : Vec Ideal S256x256 .bf16} {bc : Vec Ideal S1x256 .f32} (hs : Layers m c wc bc)
    {M s : Vec Ideal S16x1 .f32} {acc : Vec Ideal S16x256 .f32} (h : Upto m c (8192 * t.val) M s acc) :
    Upto m c (8192 * (t.val + 1))
      (newM (gi t) (iblk m c 0 t) (iblk m c 1 t) (iblk m c 2 t) (iblk m c 7 t) (iblk m c 8 t) wc bc M)
      (newS (gi t) (iblk m c 0 t) (iblk m c 1 t) (iblk m c 2 t) (iblk m c 7 t) (iblk m c 8 t) wc bc M s)
      (newAcc (gi t) (iblk m c 0 t) (iblk m c 1 t) (iblk m c 2 t) (iblk m c 7 t) (iblk m c 8 t) wc bc M acc) where
  max b := by
    refine Eq.trans ?_ (m_apply (block m c t hs) h.max b)
    unfold newM k0_pay3
    pointwise
  sum b := s_apply hc hσ (block m c t hs) h.max h.sum b
  acc b k := acc_apply hc hσ (block m c t hs) h.max (blk1 m c t) (blk2 m c t) h.acc b k

/-- After grid point `n` the scratch holds the first `8192 (n + 1)` tokens' sums and the stacked layers. -/
theorem upto_left (n : ℕ) (hn : n < cfg0.N) :
    Upto m c (8192 * (n + 1)) (left m c n hn).2.1 (left m c n hn).2.2.1 (left m c n hn).2.2.2.1
    ∧ Layers m c (left m c n hn).2.2.2.2.1 (left m c n hn).2.2.2.2.2 := by
  have hN : n < 4 := hn
  induction n with
  | zero =>
    have h0 : (⟨0, hn⟩ : Fin cfg0.N).val % 4 = 0 := rfl
    have h1 : ¬(⟨0, hn⟩ : Fin cfg0.N).val % 4 = 3 := by show ¬0 % 4 = 3; decide
    have hs : Layers m c (wc0 (iblk m c 3 ⟨0, hn⟩) (iblk m c 5 ⟨0, hn⟩)) (bc0 (iblk m c 4 ⟨0, hn⟩) (iblk m c 6 ⟨0, hn⟩)) := by
      rw [blk3, blk5]
      exact stacked0 (blk4 m c _) (blk6 m c _)
    rw [first_m m c ⟨0, hn⟩ h0 h1, first_s m c ⟨0, hn⟩ h0 h1, first_acc m c ⟨0, hn⟩ h0 h1, first_wc m c ⟨0, hn⟩ h0 h1,
      first_bc m c ⟨0, hn⟩ h0 h1]
    exact ⟨upto_step m c hc hσ ⟨0, hn⟩ hs (upto_zero m c), hs⟩
  | succ n ih =>
    have h0 : ¬(⟨n + 1, hn⟩ : Fin cfg0.N).val % 4 = 0 := by show ¬(n + 1) % 4 = 0; omega
    obtain ⟨hu, hs⟩ := ih (by omega) (by omega)
    rw [later_m m c ⟨n + 1, hn⟩ h0, later_s m c ⟨n + 1, hn⟩ h0, later_acc m c ⟨n + 1, hn⟩ h0, later_wc m c ⟨n + 1, hn⟩ h0,
      later_bc m c ⟨n + 1, hn⟩ h0]
    exact ⟨upto_step m c hc hσ ⟨n + 1, hn⟩ hs hu, hs⟩

/-- The last point leaves the last two layers of the pooled slices in the output row. -/
theorem out_row (t : Fin cfg0.N) (h1 : t.val % 4 = 3) (b : Fin 16) :
    (left m c t.val t.isLt).1 (ix2 0 b)
      = head (pooled (cut m c) (sc m c) (aX m c)) (aWm1 m c) (aBm1 m c) (aWm2 m c) (aBm2 m c) b := by
  have hN : t.val < 4 := t.isLt
  have ht : 8192 * (t.val + 1) = 32768 := by omega
  obtain ⟨hu, -⟩ := upto_left m c hc hσ t.val t.isLt
  rw [last_out m c t (by omega) h1, blk9, blk11]
  refine fin_apply (fun b k => ?_) (blk10 m c t) (blk12 m c t 0) b
  rw [hu.acc, hu.sum, ht, pooled]
end

end Cert.KernelIdeal.State
-- ==== Proof.Out.lean ====
/-
  The kernel's result after its run: every slice's value of the last two layers on its pooled tokens.
-/
module

public import proofs.«01_k».proof.Proof.State

@[expose] public section
set_option maxRecDepth 16384

noncomputable section
namespace Cert.KernelIdeal.Out
open Idealize.ShloMosaic Idealize.ShloMosaic.TcCoe Idealize.SL.Sem
open Cert.KernelIdeal Cert.KernelIdeal.Gen Cert.KernelIdeal.Blocks Cert.KernelIdeal.State Cert.Spec

variable (m : (ℓ : Loc nD τ sig) → Buf (Elt Ideal) ℓ) (c : Dev nD)

/-- Slice `b`'s result from the launched arguments. -/
abbrev res (b : Fin 16) : EReal :=
  head (pooled (cut m c) (sc m c) (aX m c)) (aWm1 m c) (aBm1 m c) (aWm2 m c) (aBm2 m c) b

/-- The output row as one array. -/
def rowOut : S1x16.Idx → EReal := fun y => res m c (y 1)

variable (hc : Cuts (cut m c)) (hσ : ∀ t, ∃ r : ℝ, sc m c t = r)
include hc hσ

/-- The output window's array after the run is the row of results. -/
theorem arr_out : (dats m 0 c).arrAt 13 cfg0.N = rowOut m c := by
  refine (dats m 0 c).arrAt_eq_of_covers 13 _ (by decide +kernel) fun t hf y => ?_
  have ht := (flush0_13 t).1 hf
  have hi : win0_13.index t = ![0, 0] := (by decide +kernel : ∀ t : Fin cfg0.N, win0_13.index t = ![0, 0]) t
  blk_simp
  rw [after0_13]
  have he : ∀ b : Fin 16, ((win0_13.blk t).view.emb (ix2 (0 : Fin 1) b)) 1 = b := fun b => by
    apply Fin.ext
    blk_simp [hi]
  have hy : y = ix2 (0 : Fin 1) (y 1) := by
    refine (eq_ix2 (n0 := 1) (n1 := 16) y).trans ?_
    rw [show y 0 = (0 : Fin 1) from Subsingleton.elim (α := Fin 1) _ _]
    rfl
  rw [hy]
  refine (out_row m c hc hσ t ht (y 1)).trans ?_
  exact (congrArg (res m c) (he (y 1))).symm

/-- The reshaped result after the run, at a slice. -/
theorem tail_out : Pipeline.afterTail₀ cfgs (dats m) 0 (V0 m) [hostOps1] c main_v7 = fun i : S16x1.Idx => res m c (i 0) := by
  have h : Pipeline.withArrays (cfgs 0).spec c (V0 m c) (fun w => (dats m 0 c).arrAt w (cfgs 0).N) (Proc.tc.devRef main_v6)
      = rowOut m c :=
    ((dats m 0 c).withArrays_arrAt launch₀0.sharedIn (V0 m c) (A_eq m c) 13).trans (arr_out m c hc hσ)
  unfold Pipeline.afterTail₀
  simp only [hostOps1, List.flatten_cons, List.flatten_nil, List.append_nil]
  after_results
  rw [h]
  funext i
  show shapeCast S16x1 (rowOut m c) shapeCasts_S1x16_S16x1 i = res m c (i 0)
  rw [eq_ix2 i]
  pointwise
  rfl

end Cert.KernelIdeal.Out
-- ==== Proof.Pre.lean ====
/-
  What the precondition says of the boundaries, the score weights and the score bias.
-/
module

public import proofs.«01_k».proof.Proof.Spec
public import proofs.«01_k».proof.Proof.Words
public import proofs.«01_k».proof.Proof.Gen.Pre_slices_and_scores
public import Idealize.ShloMosaic.Lib.Pointwise
public import Idealize.ShloMosaic.Lib.ReduceAll
public import Idealize.ShloMosaic.Lib.Affine

@[expose] public section
set_option maxRecDepth 16384

noncomputable section
namespace Cert.Pre
open Idealize.ShloMosaic Cert.Pre_slices_and_scores Cert.Spec Cert.Words

/-- An extended real whose absolute value is below infinity is a real number. -/
theorem real_of_abs {y : EReal}
    (h : BitVec.ofBool (decide ((FloatOps.absf (F := Ideal) (φ := .f32) y : EReal) < Ideal.ofBits FTy.f32 0x7F800000#32)) = 1#1) :
    ∃ r : ℝ, y = r := by
  change BitVec.ofBool (decide (max y (-y) < Ideal.ofBits FTy.f32 0x7F800000#32)) = 1#1 at h
  induction y using EReal.rec with
  | bot => simp [Ideal.ofBits, Ideal.ieee] at h
  | top => simp [Ideal.ofBits, Ideal.ieee] at h
  | coe r => exact ⟨r, rfl⟩

variable [Facts]
variable {x0 : FVec Ideal S32768x256 .f32} {idx : IVec S16 32} {x2 : FVec Ideal S128x256 .f32} {x3 : FVec Ideal S128 .f32}
  {x4 : FVec Ideal S128x256 .f32} {x5 : FVec Ideal S128 .f32} {Ws : FVec Ideal S1x128 .f32} {bs : FVec Ideal S1 .f32}
  {x8 : FVec Ideal S32x256 .f32} {x9 : FVec Ideal S32 .f32} {x10 : FVec Ideal S1x32 .f32} {x11 : FVec Ideal S1 .f32}

/-- The precondition: the boundaries cut the tokens into nonempty slices, and the score weights and bias are real. -/
theorem parts (j : S_.Idx) (h : fn (F := Ideal) x0 idx x2 x3 x4 x5 Ws bs x8 x9 x10 x11 j = 1#1) :
    Cuts (bd idx) ∧ (∀ k : Fin 128, ∃ r : ℝ, Ws (ix2 0 k) = r) ∧ ∃ r : ℝ, bs (ix1 0) = r := by
  unfold fn fn_part1 at h
  simp only [andi, IntOp.andi_eq_one] at h
  obtain ⟨⟨⟨⟨h1, h2⟩, h3⟩, h4⟩, h5⟩ := h
  have k1 := fun i : Fin 15 => Host.reduce_andi_all _ _ _ _ _ h1 (ix1 i)
  have k4 := fun i : Fin 128 => Host.reduce_andi_all _ _ _ _ _ h4 (ix2 0 i)
  have k5 := Host.reduce_andi_all _ _ _ _ _ h5 (ix1 0)
  pointwise at h2 h3 k1 k4 k5
  refine ⟨⟨?_, (sle_iff _ _).1 h2, (sle_iff _ _).1 h3⟩, fun k => real_of_abs (k4 k), real_of_abs k5⟩
  refine Fin.strictMono_iff_lt_succ.2 fun i => ?_
  have := (slt_iff _ _).1 (k1 i)
  refine lt_of_lt_of_eq this (congrArg (fun a => (idx (ix1 a)).toInt) (Fin.ext ?_))
  show 1 + i.val = i.val + 1
  omega

end Cert.Pre
-- ==== Proof.RefScore.lean ====
/-
  The reference's scores and its slice number of every token.
-/
module

public import proofs.«01_k».proof.Proof.Spec
public import proofs.«01_k».proof.Proof.Words
public import proofs.«01_k».proof.Proof.Gen.ReferenceIdeal.Read
public import Idealize.ShloMosaic.Lib.Pointwise
public import Idealize.ShloMosaic.Lib.StableHlo.Predicate
public import Idealize.ShloMosaic.Lib.Routing.OpsPair

@[expose] public section
set_option maxRecDepth 16384

noncomputable section
namespace Cert.ReferenceIdeal.Ref
open Idealize.ShloMosaic
open Cert.ReferenceIdeal Cert.ReferenceIdeal.Gen Cert.ReferenceIdeal.Read Cert.Spec Cert.Words

variable (x : (⟨2, ![32768, 256]⟩ : Shape).Idx → EReal) (idx : (⟨1, ![16]⟩ : Shape).Idx → BitVec 32)
variable (W1 W2 : (⟨2, ![128, 256]⟩ : Shape).Idx → EReal) (b1 b2 : (⟨1, ![128]⟩ : Shape).Idx → EReal)
variable (Ws : (⟨2, ![1, 128]⟩ : Shape).Idx → EReal) (bs : (⟨1, ![1]⟩ : Shape).Idx → EReal)

/-- The first layer before its activation. -/
theorem layer1_apply (t : Fin 32768) (k : Fin 128) : val_main_v12 (F := Ideal) x W1 b1 (ix2 t k) = layer x W1 b1 t.val k := by
  unfold val_main_v12 val_main_v11 val_main_v10 val_main_v9 val_main_v8
  pointwise
  rw [layer, tok_fin]

/-- The second layer before its activation. -/
theorem layer2_apply (t : Fin 32768) (k : Fin 128) : val_main_v18 (F := Ideal) x W2 b2 (ix2 t k) = layer x W2 b2 t.val k :=
  layer1_apply x W2 b2 t k

/-- The reference's score of a token. -/
theorem score_apply (t : Fin 32768) :
    val_main_v31 (F := Ideal) x W1 b1 W2 b2 Ws bs (ix1 t) = score x W1 b1 W2 b2 Ws bs t.val := by
  unfold val_main_v31 val_main_v30 val_main_v29 val_main_v28 val_main_v27 val_main_v26 val_main_v25 val_main_v24 val_main_v23
    val_main_v22 val_main_v21 val_main_v20 val_main_v19 val_main_v13 val_main_cst val_main_cst_0
  pointwise
  rw [score]
  congr 1
  refine Finset.sum_congr rfl fun k _ => ?_
  rw [layer1_apply, layer2_apply, mul_comm]
  rfl

/-- A token number's word reads as the number. -/
theorem toInt_tok (t : Fin 32768) : (BitVec.ofNat 32 t.val).toInt = (t.val : ℤ) := by
  rw [BitVec.toInt_eq_toNat_cond, BitVec.toNat_ofNat]
  split <;> omega

/-- How many boundaries do not exceed a token: its slice number. -/
def seg (t : ℕ) : ℕ := (Finset.univ.filter fun i => bd idx i ≤ (t : ℤ)).card

/-- The slice number never exceeds the slice count. -/
theorem seg_le (t : ℕ) : seg idx t ≤ 16 := (Finset.card_filter_le _ _).trans (by simp)

/-- The reference's slice word of a token is its slice number. -/
theorem seg_apply (t : Fin 32768) : val_main_v7 (F := Ideal) idx (ix1 t) = BitVec.ofNat 32 (seg idx t.val) := by
  have h : (val_main_v7 (F := Ideal) idx (ix1 t)).toNat = seg idx t.val := by
    refine (StableHlo.Predicate.toNat_reduce_count_cols (by norm_num) (val_main_v5 (F := Ideal) idx) (by norm_num) reducesTo_S32768x16_S32768_d1
      h_S_ (ix1 t)).trans ?_
    unfold seg
    congr 1
    ext q
    simp only [Finset.mem_filter, Finset.mem_univ, true_and]
    have hq : (StableHlo.Predicate.ij t q : S32768x16.Idx) = ix2 t q := by
      funext a; match a with | ⟨0, _⟩ => rfl | ⟨1, _⟩ => rfl
    show val_main_v5 (F := Ideal) idx (StableHlo.Predicate.ij t q) = 1#1 ↔ _
    rw [hq]
    unfold val_main_v5 val_main_v4 val_main_v3 val_main_v2 val_main_v1 val_main_v0
    pointwise
    rw [sle_iff, bd, toInt_tok]
  rw [← h, BitVec.ofNat_toNat, BitVec.setWidth_eq]

end Cert.ReferenceIdeal.Ref
-- ==== Proof.RefScatter.lean ====
/-
  The reference's two segment sums as sums over the tokens, and its per-token read of a per-slice value.
-/
module

public import proofs.«01_k».proof.Proof.Gen.ReferenceIdeal
public import Idealize.ShloMosaic.Lib.Pointwise
public import Idealize.ShloMosaic.Lib.Routing.OpsPair
public import Idealize.ShloMosaic.Lib.Routing.OpsSet

@[expose] public section
set_option maxRecDepth 16384

noncomputable section
namespace Cert.ReferenceIdeal.Ref
open Idealize.ShloMosaic
open Cert.ReferenceIdeal Cert.ReferenceIdeal.Gen

variable (idx : IVec S32768x1 32)

/-- A scalar update lands where its word says. -/
theorem start1 (t : Fin 32768) :
    scatter_S16_S32768x1_S32768_n_0_0_1.start (ix1 t) idx 0 = (idx (ix2 t 0)).toInt := by
  unfold ScatterDims.start
  rw [dif_pos (by decide)]
  congr 2
  funext a
  match a with
  | ⟨0, _⟩ => rfl
  | ⟨1, _⟩ => rfl

/-- A scalar update has no coordinate within a window. -/
theorem window1 (t : Fin 32768) : scatter_S16_S32768x1_S32768_n_0_0_1.window (ix1 t) 0 = 0 := by
  unfold ScatterDims.window
  rw [dif_neg (by decide)]

/-- A row update lands in the row its word says. -/
theorem start2_0 (t : Fin 32768) (k : Fin 256) :
    scatter_S16x256_S32768x1_S32768x256_1_0_0_1.start (ix2 t k) idx 0 = (idx (ix2 t 0)).toInt := by
  unfold ScatterDims.start
  rw [dif_pos (by decide)]
  congr 2
  funext a
  match a with
  | ⟨0, _⟩ => rfl
  | ⟨1, _⟩ => rfl

/-- A row update starts at the first column. -/
theorem start2_1 (t : Fin 32768) (k : Fin 256) :
    scatter_S16x256_S32768x1_S32768x256_1_0_0_1.start (ix2 t k) idx 1 = 0 := by
  unfold ScatterDims.start
  rw [dif_neg (by decide)]

/-- A row update has no row coordinate within its window. -/
theorem window2_0 (t : Fin 32768) (k : Fin 256) : scatter_S16x256_S32768x1_S32768x256_1_0_0_1.window (ix2 t k) 0 = 0 := by
  unfold ScatterDims.window
  rw [dif_neg (by decide)]

/-- A row update's column is its own. -/
theorem window2_1 (t : Fin 32768) (k : Fin 256) : scatter_S16x256_S32768x1_S32768x256_1_0_0_1.window (ix2 t k) 1 = k.val := by
  unfold ScatterDims.window
  rw [dif_pos (by decide)]
  rfl

/-- A segment sum of scalars at a slice is the sum of the tokens whose word names the slice. -/
theorem segsum1 (z : FVec Ideal S16 .f32) (u : FVec Ideal S32768 .f32) (b : Fin 16) :
    Host.scatterAdd scatter_S16_S32768x1_S32768_n_0_0_1 z idx u (ix1 b)
      = z (ix1 b) + ∑ t : Fin 32768, if (idx (ix2 t 0)).toInt = (b.val : ℤ) then u (ix1 t) else (0 : EReal) := by
  show z (ix1 b) + (∑ j ∈ Finset.univ.filter (fun j => scatter_S16_S32768x1_S32768_n_0_0_1.resultIdx? j idx = some (ix1 b)), u j : EReal) = _
  rw [Finset.sum_filter, sum_idx1]
  refine congrArg (fun s : EReal => z (ix1 b) + s) (Finset.sum_congr rfl fun t _ => if_congr ?_ rfl rfl)
  refine (Routing.resultIdx?_ix1 _ (ix1 t) idx b).trans ?_
  rw [start1, window1]
  simp

/-- A segment sum of rows at a slice is, column by column, the sum of the tokens whose word names the slice. -/
theorem segsum2 (z : FVec Ideal S16x256 .f32) (u : FVec Ideal S32768x256 .f32) (b : Fin 16) (k : Fin 256) :
    Host.scatterAdd scatter_S16x256_S32768x1_S32768x256_1_0_0_1 z idx u (ix2 b k)
      = z (ix2 b k) + ∑ t : Fin 32768, if (idx (ix2 t 0)).toInt = (b.val : ℤ) then u (ix2 t k) else (0 : EReal) := by
  show z (ix2 b k) + (∑ j ∈ Finset.univ.filter
    (fun j => scatter_S16x256_S32768x1_S32768x256_1_0_0_1.resultIdx? j idx = some (ix2 b k)), u j : EReal) = _
  rw [Finset.sum_filter, sum_idx2]
  refine congrArg (fun s : EReal => z (ix2 b k) + s) (Finset.sum_congr rfl fun t _ => ?_)
  have h : ∀ l : Fin 256, scatter_S16x256_S32768x1_S32768x256_1_0_0_1.resultIdx? (ix2 t l) idx = some (ix2 b k)
      ↔ (idx (ix2 t 0)).toInt = (b.val : ℤ) ∧ l = k := fun l => by
    refine (Routing.resultIdx?_ix2 _ (ix2 t l) idx b k).trans ?_
    rw [start2_0, start2_1, window2_0, window2_1, Fin.ext_iff]
    omega
  simp only [h]
  by_cases hb : (idx (ix2 t 0)).toInt = (b.val : ℤ)
  · simp only [hb, true_and, if_true]
    rw [Finset.sum_ite_eq' Finset.univ k fun l => u (ix2 t l), if_pos (Finset.mem_univ _)]
  · simp only [hb, false_and, if_false, Finset.sum_const_zero]

/-- A token whose word names a slice reads the slice's value. -/
theorem take_apply (v : FVec Ideal S16 .f32) (t : Fin 32768) (b : Fin 16) (h : idx (ix2 t 0) = BitVec.ofNat 32 b.val) :
    Host.gather gather_S16_S32768x1_S32768_n_0_n_n_0_1_1 v idx (ix1 t) = v (ix1 b) :=
  Routing.gather_take1 gather_S16_S32768x1_S32768_n_0_n_n_0_1_1 rfl rfl rfl rfl v idx t b h (by norm_num)

end Cert.ReferenceIdeal.Ref
-- ==== Proof.RefPool.lean ====
/-
  The reference's pooling: every slice's greatest score, its tokens' weights, and the weighted sum of its tokens.
-/
module

public import proofs.«01_k».proof.Proof.RefScore
public import proofs.«01_k».proof.Proof.RefScatter

@[expose] public section
set_option maxRecDepth 16384

noncomputable section
namespace Cert.ReferenceIdeal.Ref
open Idealize.ShloMosaic
open Cert.ReferenceIdeal Cert.ReferenceIdeal.Gen Cert.ReferenceIdeal.Read Cert.Spec Cert.Words

variable (x : (⟨2, ![32768, 256]⟩ : Shape).Idx → EReal) (idx : (⟨1, ![16]⟩ : Shape).Idx → BitVec 32)
variable (W1 : (⟨2, ![128, 256]⟩ : Shape).Idx → EReal) (b1 : (⟨1, ![128]⟩ : Shape).Idx → EReal)
variable (W2 : (⟨2, ![128, 256]⟩ : Shape).Idx → EReal) (b2 : (⟨1, ![128]⟩ : Shape).Idx → EReal)
variable (Ws : (⟨2, ![1, 128]⟩ : Shape).Idx → EReal) (bs : (⟨1, ![1]⟩ : Shape).Idx → EReal)

/-- The score of a token from the reference's arguments. -/
abbrev sco : ℕ → EReal := score x W1 b1 W2 b2 Ws bs

/-- The tokens of a slice. -/
abbrev mem (b : Fin 16) : ℕ → Prop := Member (bd idx) b

/-- A slice word is the word of a slice exactly when the slice number is the slice. -/
theorem word_eq_iff (t : ℕ) (b : Fin 16) : BitVec.ofNat 32 (seg idx t) = BitVec.ofNat 32 b.val ↔ seg idx t = b.val := by
  have := seg_le idx t
  have := b.isLt
  constructor
  · intro h
    have h' := congrArg BitVec.toNat h
    rw [BitVec.toNat_ofNat, BitVec.toNat_ofNat] at h'
    omega
  · intro h; rw [h]

/-- A slice word read signed is the slice number. -/
theorem word_toInt (t : ℕ) : (BitVec.ofNat 32 (seg idx t)).toInt = (seg idx t : ℤ) := by
  have := seg_le idx t
  rw [BitVec.toInt_eq_toNat_cond, BitVec.toNat_ofNat]
  split <;> omega

/-- The wrapped slice word of a token, at the first read, is its slice number. -/
theorem v46_apply (t : Fin 32768) : val_main_v46 (F := Ideal) idx (ix2 t 0) = BitVec.ofNat 32 (seg idx t.val) := by
  unfold val_main_v46 val_main_v45 val_main_v44 val_main_v43 val_main_v42 val_main_v41 val_main_c_3 val_main_c_4
  pointwise
  rw [seg_apply]
  refine Routing.wrap_of_lt _ _ ?_
  have := seg_le idx t.val
  rw [BitVec.toNat_ofNat]
  omega

/-- The same at the second read. -/
theorem v58_apply (t : Fin 32768) : val_main_v58 (F := Ideal) idx (ix2 t 0) = BitVec.ofNat 32 (seg idx t.val) :=
  v46_apply idx t

/-- The unwrapped slice word of a token, at the first sum. -/
theorem v51_apply (t : Fin 32768) : val_main_v51 (F := Ideal) idx (ix2 t 0) = BitVec.ofNat 32 (seg idx t.val) := by
  unfold val_main_v51
  pointwise
  exact seg_apply idx t

/-- The same at the second sum. -/
theorem v65_apply (t : Fin 32768) : val_main_v65 (F := Ideal) idx (ix2 t 0) = BitVec.ofNat 32 (seg idx t.val) :=
  v51_apply idx t

/-- The rows' sum starts at zero. -/
theorem v64_apply (b : Fin 16) (k : Fin 256) : val_main_v64 (F := Ideal) (ix2 b k) = (0 : EReal) := by
  unfold val_main_v64 val_main_cst_8
  pointwise

/-- A token's weighted row. -/
theorem v63_apply (t : Fin 32768) (k : Fin 256) :
    val_main_v63 (F := Ideal) x idx W1 b1 W2 b2 Ws bs (ix2 t k)
      = x (ix2 t k) * Ideal.div (val_main_v49 (F := Ideal) x idx W1 b1 W2 b2 Ws bs (ix1 t))
          (val_main_v59 (F := Ideal) x idx W1 b1 W2 b2 Ws bs (ix1 t)) := by
  have e : idx_main_v61 (idx_main_v62 (ix2 t k)) = ix1 t := by
    funext a
    match a with
    | ⟨0, _⟩ => rfl
  rw [val_main_v63_apply, val_main_v62_apply, val_main_v61_apply, val_main_v60_apply, e]
  generalize val_main_v49 (F := Ideal) x idx W1 b1 W2 b2 Ws bs (ix1 t) = y
  generalize val_main_v59 (F := Ideal) x idx W1 b1 W2 b2 Ws bs (ix1 t) = z
  rfl

variable (hc : Cuts (bd idx))
include hc

/-- A token belongs to a slice exactly when its slice number is the slice. -/
theorem seg_iff (t : ℕ) (b : Fin 16) : seg idx t = b.val ↔ mem idx b t := hc.count_iff b t

/-- The word of the first sum names a slice exactly when the token belongs to it. -/
theorem v51_iff (t : Fin 32768) (b : Fin 16) :
    (val_main_v51 (F := Ideal) idx (ix2 t 0)).toInt = (b.val : ℤ) ↔ mem idx b t.val := by
  rw [v51_apply, word_toInt, Nat.cast_inj]
  exact seg_iff idx hc t.val b

/-- The same at the second sum. -/
theorem v65_iff (t : Fin 32768) (b : Fin 16) :
    (val_main_v65 (F := Ideal) idx (ix2 t 0)).toInt = (b.val : ℤ) ↔ mem idx b t.val :=
  v51_iff idx hc t b

/-- The reference's greatest score of a slice. -/
theorem v40_apply (b : Fin 16) :
    val_main_v40 (F := Ideal) x idx W1 b1 W2 b2 Ws bs (ix1 b) = Pool.top (mem idx b) (sco x W1 b1 W2 b2 Ws bs) 32768 := by
  unfold val_main_v40 val_main_v39 val_main_call0_v2 val_main_call0_v1 val_main_call0_v0 val_main_cst_1 val_main_cst_2
    val_main_v38 val_main_v37 val_main_v36 val_main_v35 val_main_v34 val_main_v33 val_main_v32
  pointwise
  show Finset.univ.fold max (Ideal.ofBits .f32 0xFF800000#32) (fun t : Fin 32768 =>
    Scalar.select (IntOp.cmpi .eq (val_main_v7 (F := Ideal) idx (ix1 t)) (BitVec.ofNat 32 b.val))
      (val_main_v31 (F := Ideal) x W1 b1 W2 b2 Ws bs (ix1 t)) (Ideal.ofBits .f32 0xFF800000#32)) = _
  rw [negInf_eq, fold_max, Pool.top, ← sup_fin]
  refine Finset.sup_congr rfl fun t _ => ?_
  rw [score_apply, seg_apply, Pool.key]
  exact select_iff ((eq_iff _ _).trans ((word_eq_iff idx t.val b).trans (seg_iff idx hc t.val b))) _ _

/-- A token of a slice reads the slice's greatest score. -/
theorem v47_apply (t : Fin 32768) (b : Fin 16) (h : mem idx b t.val) :
    val_main_v47 (F := Ideal) x idx W1 b1 W2 b2 Ws bs (ix1 t) = Pool.top (mem idx b) (sco x W1 b1 W2 b2 Ws bs) 32768 := by
  refine (take_apply _ _ t b ?_).trans (v40_apply x idx W1 b1 W2 b2 Ws bs hc b)
  rw [v46_apply, (seg_iff idx hc t.val b).2 h]

/-- A token's weight in its slice. -/
theorem v49_apply (t : Fin 32768) (b : Fin 16) (h : mem idx b t.val) :
    val_main_v49 (F := Ideal) x idx W1 b1 W2 b2 Ws bs (ix1 t)
      = Pool.wt (mem idx b) (sco x W1 b1 W2 b2 Ws bs) (Pool.top (mem idx b) (sco x W1 b1 W2 b2 Ws bs) 32768) t.val := by
  unfold val_main_v49 val_main_v48
  pointwise
  rw [score_apply, v47_apply x idx W1 b1 W2 b2 Ws bs hc t b h, Pool.wt, if_pos h]

/-- The slice's sum of weights. -/
theorem v52_apply (b : Fin 16) :
    val_main_v52 (F := Ideal) x idx W1 b1 W2 b2 Ws bs (ix1 b) = Pool.mass (mem idx b) (sco x W1 b1 W2 b2 Ws bs) 32768 := by
  unfold val_main_v52
  rw [segsum1, Pool.mass, Finset.sum_range]
  unfold val_main_v50 val_main_cst_5
  pointwise
  refine Finset.sum_congr rfl fun t _ => ?_
  by_cases h : mem idx b t.val
  · rw [if_pos ((v51_iff idx hc t b).2 h), v49_apply x idx W1 b1 W2 b2 Ws bs hc t b h]
  · rw [if_neg fun g => h ((v51_iff idx hc t b).1 g), Pool.wt, if_neg h]

/-- A token of a slice reads the slice's sum of weights. -/
theorem v59_apply (t : Fin 32768) (b : Fin 16) (h : mem idx b t.val) :
    val_main_v59 (F := Ideal) x idx W1 b1 W2 b2 Ws bs (ix1 t) = Pool.mass (mem idx b) (sco x W1 b1 W2 b2 Ws bs) 32768 := by
  refine (take_apply _ _ t b ?_).trans (v52_apply x idx W1 b1 W2 b2 Ws bs hc b)
  rw [v58_apply, (seg_iff idx hc t.val b).2 h]

variable (hσ : ∀ t, ∃ r : ℝ, sco x W1 b1 W2 b2 Ws bs t = r)
include hσ

/-- A token's weighted row within its slice's sum. -/
theorem term_apply (b : Fin 16) (k : Fin 256) (t : Fin 32768) :
    (if (val_main_v65 (F := Ideal) idx (ix2 t 0)).toInt = (b.val : ℤ)
        then val_main_v63 (F := Ideal) x idx W1 b1 W2 b2 Ws bs (ix2 t k) else (0 : EReal))
      = x (ix2 (tok t.val) k) * Ideal.div (Pool.wt (mem idx b) (sco x W1 b1 W2 b2 Ws bs)
          (Pool.top (mem idx b) (sco x W1 b1 W2 b2 Ws bs) 32768) t.val)
          (Pool.mass (mem idx b) (sco x W1 b1 W2 b2 Ws bs) 32768) := by
  obtain ⟨u, hu, hm⟩ := hc.nonempty b
  rw [tok_fin]
  by_cases h : mem idx b t.val
  · rw [if_pos ((v65_iff idx hc t b).2 h), v63_apply, v49_apply x idx W1 b1 W2 b2 Ws bs hc t b h,
      v59_apply x idx W1 b1 W2 b2 Ws bs hc t b h]
  · obtain ⟨r, hr, he⟩ := Pool.mass_pos _ _ hσ hu hm
    rw [if_neg fun g => h ((v65_iff idx hc t b).1 g), Pool.wt, if_neg h, he]
    rw [Ideal.div_coe hr.ne', zero_mul, mul_zero]

/-- The slice's weighted sum is the pooled slice. -/
theorem v66_apply (b : Fin 16) (k : Fin 256) :
    val_main_v66 (F := Ideal) x idx W1 b1 W2 b2 Ws bs (ix2 b k) = pooled (bd idx) (sco x W1 b1 W2 b2 Ws bs) x b k := by
  obtain ⟨u, hu, hm⟩ := hc.nonempty b
  unfold val_main_v66
  refine (segsum2 _ _ _ b k).trans ?_
  rw [v64_apply, zero_add, pooled, Pool.blend_div _ _ _ hσ hu hm, Finset.sum_range]
  exact Finset.sum_congr rfl fun t _ => term_apply x idx W1 b1 W2 b2 Ws bs hc hσ b k t

end Cert.ReferenceIdeal.Ref
-- ==== Proof.RefHead.lean ====
/-
  The reference's last two layers, of any pooled array.
-/
module

public import proofs.«01_k».proof.Proof.RefPool

@[expose] public section
set_option maxRecDepth 16384

noncomputable section
namespace Cert.ReferenceIdeal.Ref
open Idealize.ShloMosaic
open Cert.ReferenceIdeal Cert.ReferenceIdeal.Gen Cert.ReferenceIdeal.Read Cert.Spec Cert.Words

variable (x : (⟨2, ![32768, 256]⟩ : Shape).Idx → EReal) (idx : (⟨1, ![16]⟩ : Shape).Idx → BitVec 32)
variable (W1 : (⟨2, ![128, 256]⟩ : Shape).Idx → EReal) (b1 : (⟨1, ![128]⟩ : Shape).Idx → EReal)
variable (W2 : (⟨2, ![128, 256]⟩ : Shape).Idx → EReal) (b2 : (⟨1, ![128]⟩ : Shape).Idx → EReal)
variable (Ws : (⟨2, ![1, 128]⟩ : Shape).Idx → EReal) (bs : (⟨1, ![1]⟩ : Shape).Idx → EReal)
variable (Wm1 : (⟨2, ![32, 256]⟩ : Shape).Idx → EReal) (bm1 : (⟨1, ![32]⟩ : Shape).Idx → EReal)
variable (Wm2 : (⟨2, ![1, 32]⟩ : Shape).Idx → EReal) (bm2 : (⟨1, ![1]⟩ : Shape).Idx → EReal)

/-- The third layer after its activation. -/
theorem v72_apply (b : Fin 16) (k : Fin 32) :
    val_main_v72 (F := Ideal) x idx W1 b1 W2 b2 Ws bs Wm1 bm1 (ix2 b k)
      = max (∑ c : Fin 256, val_main_v66 (F := Ideal) x idx W1 b1 W2 b2 Ws bs (ix2 b c) * Wm1 (ix2 k c) + bm1 (ix1 k)) 0 := by
  have hl : ∀ c : Fin 256, lidx_main_v68 (ix2 b k) c = ix2 b c := fun c => by
    funext a
    match a with
    | ⟨0, _⟩ => rfl
    | ⟨1, _⟩ => rfl
  have hr : ∀ c : Fin 256, idx_main_v67 (ridx_main_v68 (ix2 b k) c) = ix2 k c := fun c => by
    funext a
    match a with
    | ⟨0, _⟩ => rfl
    | ⟨1, _⟩ => rfl
  have hb : idx_main_v69 (idx_main_v70 (ix2 b k)) = ix1 k := by
    funext a
    match a with
    | ⟨0, _⟩ => rfl
  rw [val_main_v72_apply, val_main_v71_apply, val_main_v70_apply, val_main_v69_apply, hb, val_main_v68_apply,
    val_main_call1_v0_apply, val_main_call1_cst_apply]
  have hs : ∀ c : Fin 256, val_main_v66 (F := Ideal) x idx W1 b1 W2 b2 Ws bs (lidx_main_v68 (ix2 b k) c)
      * val_main_v67 (F := Ideal) Wm1 (ridx_main_v68 (ix2 b k) c)
        = val_main_v66 (F := Ideal) x idx W1 b1 W2 b2 Ws bs (ix2 b c) * Wm1 (ix2 k c) := fun c => by
    rw [val_main_v67_apply, hl, hr]
  rw [Finset.sum_congr rfl fun c _ => hs c]
  generalize val_main_v66 (F := Ideal) x idx W1 b1 W2 b2 Ws bs = y
  show max _ (Ideal.ofBits .f32 0x00000000#32) = _
  rw [zero_eq]
  rfl

/-- The last layer after its activation. -/
theorem v78_of_v72 (b : Fin 16) :
    val_main_v78 (F := Ideal) x idx W1 b1 W2 b2 Ws bs Wm1 bm1 Wm2 bm2 (ix2 b 0)
      = max (∑ k : Fin 32, val_main_v72 (F := Ideal) x idx W1 b1 W2 b2 Ws bs Wm1 bm1 (ix2 b k) * Wm2 (ix2 0 k) + bm2 (ix1 0)) 0 := by
  have hl : ∀ k : Fin 32, lidx_main_v74 (ix2 b 0) k = ix2 b k := fun k => by
    funext a
    match a with
    | ⟨0, _⟩ => rfl
    | ⟨1, _⟩ => rfl
  have hr : ∀ k : Fin 32, idx_main_v73 (ridx_main_v74 (ix2 b 0) k) = ix2 0 k := fun k => by
    funext a
    match a with
    | ⟨0, _⟩ => rfl
    | ⟨1, _⟩ => rfl
  have hb : idx_main_v75 (idx_main_v76 (ix2 b 0)) = ix1 0 := by
    funext a
    match a with
    | ⟨0, _⟩ => rfl
  rw [val_main_v78_apply, val_main_v77_apply, val_main_v76_apply, val_main_v75_apply, hb, val_main_v74_apply,
    val_main_call2_v0_apply, val_main_call2_cst_apply]
  have hs : ∀ k : Fin 32, val_main_v72 (F := Ideal) x idx W1 b1 W2 b2 Ws bs Wm1 bm1 (lidx_main_v74 (ix2 b 0) k)
      * val_main_v73 (F := Ideal) Wm2 (ridx_main_v74 (ix2 b 0) k)
        = val_main_v72 (F := Ideal) x idx W1 b1 W2 b2 Ws bs Wm1 bm1 (ix2 b k) * Wm2 (ix2 0 k) := fun k => by
    rw [val_main_v73_apply, hl, hr]
  rw [Finset.sum_congr rfl fun k _ => hs k]
  generalize val_main_v72 (F := Ideal) x idx W1 b1 W2 b2 Ws bs Wm1 bm1 = y
  show max _ (Ideal.ofBits .f32 0x00000000#32) = _
  rw [zero_eq]
  rfl

/-- The reference's result of a slice. -/
theorem v78_apply (hc : Cuts (bd idx)) (hσ : ∀ t, ∃ r : ℝ, sco x W1 b1 W2 b2 Ws bs t = r) (b : Fin 16) :
    val_main_v78 (F := Ideal) x idx W1 b1 W2 b2 Ws bs Wm1 bm1 Wm2 bm2 (ix2 b 0)
      = head (pooled (bd idx) (sco x W1 b1 W2 b2 Ws bs) x) Wm1 bm1 Wm2 bm2 b := by
  rw [v78_of_v72, head]
  refine congrArg (fun s : EReal => max (s + bm2 (ix1 0)) 0) (Finset.sum_congr rfl fun k _ => ?_)
  rw [v72_apply, mul_comm]
  refine congrArg (fun s : EReal => Wm2 (ix2 0 k) * max (s + bm1 (ix1 k)) 0) (Finset.sum_congr rfl fun c _ => ?_)
  rw [v66_apply x idx W1 b1 W2 b2 Ws bs hc hσ]

end Cert.ReferenceIdeal.Ref
-- ==== Proof.Value.lean ====
/-
  The value claim: the idealized kernel and the reference end with one result.
-/
module

public import proofs.«01_k».proof.Defs
public import proofs.«01_k».proof.Proof.Out
public import proofs.«01_k».proof.Proof.Pre
public import proofs.«01_k».proof.Proof.RefHead
public import proofs.«01_k».proof.Proof.Gen.ReferenceIdeal.Run
public import Idealize.ShloMosaic.Lib.Claim

@[expose] public section
set_option maxRecDepth 16384

noncomputable section
namespace Cert.Value
open Idealize.ShloMosaic Idealize.ShloMosaic.TcCoe Idealize.SL.Sem Cert.Spec
open Cert.KernelIdeal.Blocks Cert.KernelIdeal.State Cert.KernelIdeal.Out

section
variable [Cert.Pre_slices_and_scores.Facts]

/-- Under the precondition the boundaries cut the tokens into slices. -/
theorem cuts_of_pre {m : (ℓ : Loc Cert.KernelIdeal.nD Cert.KernelIdeal.τ Cert.KernelIdeal.sig) → Buf (Elt Ideal) ℓ}
    (h : Cert.Pre_KernelIdeal_slices_and_scores m) (c : Dev Cert.KernelIdeal.nD) : Cuts (cut m c) :=
  (Cert.Pre.parts _ (congrFun (h c) ix0)).1

/-- Under the precondition every score is a real number. -/
theorem real_of_pre {m : (ℓ : Loc Cert.KernelIdeal.nD Cert.KernelIdeal.τ Cert.KernelIdeal.sig) → Buf (Elt Ideal) ℓ}
    (h : Cert.Pre_KernelIdeal_slices_and_scores m) (c : Dev Cert.KernelIdeal.nD) (t : ℕ) : ∃ r : ℝ, sc m c t = r := by
  obtain ⟨-, hw, hb⟩ := Cert.Pre.parts _ (congrFun (h c) ix0)
  exact score_real _ _ _ _ _ _ _ hw hb t
end

/-- The idealized kernel's run ends with every slice's result, its arguments unchanged. -/
theorem kernel_run (m : (ℓ : Loc Cert.KernelIdeal.nD Cert.KernelIdeal.τ Cert.KernelIdeal.sig) → Buf (Elt Ideal) ℓ)
    (hc : ∀ c, Cuts (cut m c)) (hσ : ∀ c t, ∃ r : ℝ, sc m c t = r) (ρ : Dev Cert.KernelIdeal.nD → PrngReg) :
    θ_run Cert.KernelIdeal.defs (onTc (τ := Cert.KernelIdeal.τ) (Cert.KernelIdeal.main (F := Ideal))) ⟨m, fun _ => 0, ρ⟩ fun r =>
      ∀ c : Dev Cert.KernelIdeal.nD, r.2.mem ((c : Thread Cert.KernelIdeal.nD Cert.KernelIdeal.τ).loc Cert.KernelIdeal.main_v7)
        = fun i : Cert.KernelIdeal.S16x1.Idx => res m c (i 0) :=
  (θ_run Cert.KernelIdeal.defs _ _).mono
    (fun _ h c => ((h c).2 Cert.KernelIdeal.main_v7 (Pipeline.mem_restRefs_of _ (by decide) (by decide))).trans
      (tail_out m c (hc c) (hσ c)))
    (Cert.KernelIdeal.Gen.run_main m ρ)

/-- The reference's result from any arguments whose boundaries cut and whose scores are real. -/
theorem reference_eq (x : (⟨2, ![32768, 256]⟩ : Shape).Idx → EReal) (idx : (⟨1, ![16]⟩ : Shape).Idx → BitVec 32)
    (W1 : (⟨2, ![128, 256]⟩ : Shape).Idx → EReal) (b1 : (⟨1, ![128]⟩ : Shape).Idx → EReal)
    (W2 : (⟨2, ![128, 256]⟩ : Shape).Idx → EReal) (b2 : (⟨1, ![128]⟩ : Shape).Idx → EReal)
    (Ws : (⟨2, ![1, 128]⟩ : Shape).Idx → EReal) (bs : (⟨1, ![1]⟩ : Shape).Idx → EReal)
    (Wm1 : (⟨2, ![32, 256]⟩ : Shape).Idx → EReal) (bm1 : (⟨1, ![32]⟩ : Shape).Idx → EReal)
    (Wm2 : (⟨2, ![1, 32]⟩ : Shape).Idx → EReal) (bm2 : (⟨1, ![1]⟩ : Shape).Idx → EReal)
    (hc : Cuts (bd idx)) (hσ : ∀ t, ∃ r : ℝ, score x W1 b1 W2 b2 Ws bs t = r) :
    Cert.ReferenceIdeal.Read.val_main_v78 (F := Ideal) x idx W1 b1 W2 b2 Ws bs Wm1 bm1 Wm2 bm2
      = fun i : Cert.KernelIdeal.S16x1.Idx => head (pooled (bd idx) (score x W1 b1 W2 b2 Ws bs) x) Wm1 bm1 Wm2 bm2 (i 0) := by
  funext i
  have hi : i = ix2 (i 0) (0 : Fin 1) := by
    refine (eq_ix2 (n0 := 16) (n1 := 1) i).trans ?_
    rw [show i 1 = (0 : Fin 1) from Subsingleton.elim (α := Fin 1) _ _]
    rfl
  rw [hi]
  exact Cert.ReferenceIdeal.Ref.v78_apply x idx W1 b1 W2 b2 Ws bs Wm1 bm1 Wm2 bm2 hc hσ (i 0)

/-- From memories agreeing on the arguments, under the precondition, the two programs end with equal results. -/
theorem algebraic [Cert.Pre_slices_and_scores.Facts] : Cert.algebraic_KernelIdeal_ReferenceIdeal_pre_slices_and_scores
    (hKernelIdeal := Cert.KernelIdeal.Gen.facts) (hReferenceIdeal := Cert.ReferenceIdeal.Gen.facts) := by
  intro m g m' g' hpre hag
  have hc := cuts_of_pre hpre
  have hσ := real_of_pre hpre
  refine ⟨fun c => fun i : Cert.KernelIdeal.S16x1.Idx => res m c (i 0), ?_, ?_⟩
  · exact (θ_run Cert.KernelIdeal.defs _ _).mono (fun _ h c => ⟨h.1 c, h.2 c⟩)
      (θ_run_and (kernel_run m hc hσ g) (Cert.KernelIdeal.Gen.unchanged m g))
  · refine (θ_run Cert.ReferenceIdeal.defs _ _).mono (fun _ h c => ⟨(h c).1.trans ?_, (h c).2⟩)
      (Cert.ReferenceIdeal.Value.run (F := Ideal) m' g')
    obtain ⟨h0, h1, h2, h3, h4, h5, h6, h7, h8, h9, h10, h11⟩ := hag c
    rw [Cert.ReferenceIdeal.Read.val_main_v78_eq, h0, h1, h2, h3, h4, h5, h6, h7, h8, h9, h10, h11]
    exact reference_eq _ _ _ _ _ _ _ _ _ _ _ _ (hc c) (hσ c)

end Cert.Value
-- ==== Proof.lean ====
/- The five claims of the kernel and its reference, put together. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_slices_and_scores
public import proofs.«01_k».proof.Proof.Frames
public import proofs.«01_k».proof.Proof.Value

@[expose] public section

noncomputable section

namespace Cert.Proof

open Idealize.ShloMosaic Idealize.SL.Sem

/-- Every program's run ends clean, the idealization is sanctioned, and kernel and reference agree. -/
theorem claim : Cert.Claim :=
  ⟨Cert.Kernel.Gen.facts, Cert.KernelIdeal.Gen.facts, Cert.ReferenceIdeal.Gen.facts, Cert.Pre_slices_and_scores.Gen.facts,
    Cert.Frames.kernel, Cert.Frames.ideal, Cert.Frames.ideal_pre, Cert.Frames.reference, Cert.Frames.reference_pre,
    IdealRules.named_const.statement Cert.KernelIdeal.κ "mask" .f32 0xF149F2CA#32 ⊥ rfl, Cert.Value.algebraic⟩

end Cert.Proof

end
